-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x512 : Shape := ⟨3, ![2, 768, 512]⟩
abbrev S2x768x1024 : Shape := ⟨3, ![2, 768, 1024]⟩
abbrev S2x768 : Shape := ⟨2, ![2, 768]⟩
abbrev S2x768x11008 : Shape := ⟨3, ![2, 768, 11008]⟩
abbrev S1536x512 : Shape := ⟨2, ![1536, 512]⟩
abbrev S1536x1024 : Shape := ⟨2, ![1536, 1024]⟩
abbrev S1536x1 : Shape := ⟨2, ![1536, 1]⟩
abbrev S1536x11008 : Shape := ⟨2, ![1536, 11008]⟩
abbrev S1536x4096 : Shape := ⟨2, ![1536, 4096]⟩
abbrev S4096x1536 : Shape := ⟨2, ![4096, 1536]⟩
abbrev S128x512 : Shape := ⟨2, ![128, 512]⟩
abbrev S128x1024 : Shape := ⟨2, ![128, 1024]⟩
abbrev S128x1 : Shape := ⟨2, ![128, 1]⟩
abbrev S128x4096 : Shape := ⟨2, ![128, 4096]⟩
abbrev S4096x128 : Shape := ⟨2, ![4096, 128]⟩
abbrev S512x512 : Shape := ⟨2, ![512, 512]⟩
abbrev S128x128 : Shape := ⟨2, ![128, 128]⟩
abbrev S128x128x1 : Shape := ⟨3, ![128, 128, 1]⟩
abbrev S4096x11008 : Shape := ⟨2, ![4096, 11008]⟩
abbrev S1536x256 : Shape := ⟨2, ![1536, 256]⟩
abbrev S4096x256 : Shape := ⟨2, ![4096, 256]⟩
abbrev S512x1536 : Shape := ⟨2, ![512, 1536]⟩
abbrev S512x256 : Shape := ⟨2, ![512, 256]⟩
abbrev S2x768x4096 : Shape := ⟨3, ![2, 768, 4096]⟩

abbrev nBuf : Space → Nat
  | .hbm => 14
  | .vmem => 16
  | .smem => 0
  | _ => 0

abbrev bufTy : (tb : Table) → Fin (tcTables nBuf tb) → BufTy
  | .hbm, ⟨0, _⟩ => ⟨S2x768x512, .i8⟩
  | .hbm, ⟨1, _⟩ => ⟨S2x768x1024, .i8⟩
  | .hbm, ⟨2, _⟩ => ⟨S2x768, .f32⟩
  | .hbm, ⟨3, _⟩ => ⟨S2x768x11008, .fp8e5m2⟩
  | .hbm, ⟨4, _⟩ => ⟨S2x768, .f32⟩
  | .hbm, ⟨5, _⟩ => ⟨S1536x512, .i8⟩
  | .hbm, ⟨6, _⟩ => ⟨S1536x1024, .i8⟩
  | .hbm, ⟨7, _⟩ => ⟨S1536x1, .f32⟩
  | .hbm, ⟨8, _⟩ => ⟨S1536x1, .f32⟩
  | .hbm, ⟨9, _⟩ => ⟨S1536x11008, .fp8e5m2⟩
  | .hbm, ⟨10, _⟩ => ⟨S1536x4096, .bf16⟩
  | .hbm, ⟨11, _⟩ => ⟨S4096x1536, .bf16⟩
  | .hbm, ⟨12, _⟩ => ⟨S4096x11008, .f32⟩
  | .hbm, ⟨13, _⟩ => ⟨S2x768x4096, .bf16⟩
  | .local _ .vmem, ⟨0, _⟩ => ⟨S128x512, .i8⟩
  | .local _ .vmem, ⟨1, _⟩ => ⟨S128x512, .i8⟩
  | .local _ .vmem, ⟨2, _⟩ => ⟨S128x1024, .i8⟩
  | .local _ .vmem, ⟨3, _⟩ => ⟨S128x1024, .i8⟩
  | .local _ .vmem, ⟨4, _⟩ => ⟨S128x1, .f32⟩
  | .local _ .vmem, ⟨5, _⟩ => ⟨S128x1, .f32⟩
  | .local _ .vmem, ⟨6, _⟩ => ⟨S128x4096, .bf16⟩
  | .local _ .vmem, ⟨7, _⟩ => ⟨S128x4096, .bf16⟩
  | .local _ .vmem, ⟨8, _⟩ => ⟨S4096x128, .bf16⟩
  | .local _ .vmem, ⟨9, _⟩ => ⟨S4096x128, .bf16⟩
  | .local _ .vmem, ⟨10, _⟩ => ⟨S4096x1536, .bf16⟩
  | .local _ .vmem, ⟨11, _⟩ => ⟨S1536x256, .fp8e5m2⟩
  | .local _ .vmem, ⟨12, _⟩ => ⟨S1536x256, .fp8e5m2⟩
  | .local _ .vmem, ⟨13, _⟩ => ⟨S1536x1, .f32⟩
  | .local _ .vmem, ⟨14, _⟩ => ⟨S4096x256, .f32⟩
  | .local _ .vmem, ⟨15, _⟩ => ⟨S4096x256, .f32⟩
  | _, _ => ⟨S2x768x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x1536 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1536x256 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1536x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S2x768x512 : Shape := ⟨3, ![2, 768, 512]⟩
abbrev S2x768x1024 : Shape := ⟨3, ![2, 768, 1024]⟩
abbrev S2x768 : Shape := ⟨2, ![2, 768]⟩
abbrev S2x768x11008 : Shape := ⟨3, ![2, 768, 11008]⟩
abbrev S2x768x512x1 : Shape := ⟨4, ![2, 768, 512, 1]⟩
abbrev S8 : Shape := ⟨1, ![8]⟩
abbrev S1x1x1x8 : Shape := ⟨4, ![1, 1, 1, 8]⟩
abbrev S2x768x512x8 : Shape := ⟨4, ![2, 768, 512, 8]⟩
abbrev S_ : Shape := ⟨0, ![]⟩
abbrev S2x768x4096 : Shape := ⟨3, ![2, 768, 4096]⟩
abbrev S2x768x4096x1 : Shape := ⟨4, ![2, 768, 4096, 1]⟩
abbrev S1 : Shape := ⟨1, ![1]⟩
abbrev S1x1x1x1 : Shape := ⟨4, ![1, 1, 1, 1]⟩
abbrev S2x768x1 : Shape := ⟨3, ![2, 768, 1]⟩
abbrev S4096x11008 : Shape := ⟨2, ![4096, 11008]⟩

abbrev nBuf : Space → Nat
  | .hbm => 62
  | .vmem => 4
  | .smem => 0
  | _ => 0

abbrev bufTy : (tb : Table) → Fin (tcTables nBuf tb) → BufTy
  | .hbm, ⟨0, _⟩ => ⟨S2x768x512, .i8⟩
  | .hbm, ⟨1, _⟩ => ⟨S2x768x1024, .i8⟩
  | .hbm, ⟨2, _⟩ => ⟨S2x768, .f32⟩
  | .hbm, ⟨3, _⟩ => ⟨S2x768x11008, .fp8e5m2⟩
  | .hbm, ⟨4, _⟩ => ⟨S2x768, .f32⟩
  | .hbm, ⟨5, _⟩ => ⟨S2x768x512x1, .i8⟩
  | .hbm, ⟨6, _⟩ => ⟨S2x768x512x1, .i32⟩
  | .hbm, ⟨7, _⟩ => ⟨S8, .i32⟩
  | .hbm, ⟨8, _⟩ => ⟨S1x1x1x8, .i32⟩
  | .hbm, ⟨9, _⟩ => ⟨S2x768x512x8, .i32⟩
  | .hbm, ⟨10, _⟩ => ⟨S2x768x512x8, .i32⟩
  | .hbm, ⟨11, _⟩ => ⟨S2x768x512x8, .i32⟩
  | .hbm, ⟨12, _⟩ => ⟨S_, .i32⟩
  | .hbm, ⟨13, _⟩ => ⟨S2x768x512x8, .i32⟩
  | .hbm, ⟨14, _⟩ => ⟨S2x768x512x8, .i32⟩
  | .hbm, ⟨15, _⟩ => ⟨S2x768x4096, .i32⟩
  | .hbm, ⟨16, _⟩ => ⟨S_, .i32⟩
  | .hbm, ⟨17, _⟩ => ⟨S_, .i32⟩
  | .hbm, ⟨18, _⟩ => ⟨S2x768x4096, .i32⟩
  | .hbm, ⟨19, _⟩ => ⟨S2x768x4096, .i32⟩
  | .hbm, ⟨20, _⟩ => ⟨S2x768x1024, .bf16⟩
  | .hbm, ⟨21, _⟩ => ⟨S2x768x11008, .bf16⟩
  | .hbm, ⟨22, _⟩ => ⟨S_, .i32⟩
  | .hbm, ⟨23, _⟩ => ⟨S2x768x4096, .i32⟩
  | .hbm, ⟨24, _⟩ => ⟨S2x768x4096, .i32⟩
  | .hbm, ⟨25, _⟩ => ⟨S_, .i32⟩
  | .hbm, ⟨26, _⟩ => ⟨S2x768x4096, .i32⟩
  | .hbm, ⟨27, _⟩ => ⟨S2x768x4096, .i1⟩
  | .hbm, ⟨28, _⟩ => ⟨S_, .i32⟩
  | .hbm, ⟨29, _⟩ => ⟨S2x768x4096, .i32⟩
  | .hbm, ⟨30, _⟩ => ⟨S2x768x4096, .i32⟩
  | .hbm, ⟨31, _⟩ => ⟨S2x768x4096, .i32⟩
  | .hbm, ⟨32, _⟩ => ⟨S2x768x4096x1, .i32⟩
  | .hbm, ⟨33, _⟩ => ⟨S1, .i32⟩
  | .hbm, ⟨34, _⟩ => ⟨S_, .i32⟩
  | .hbm, ⟨35, _⟩ => ⟨S2x768x4096x1, .i32⟩
  | .hbm, ⟨36, _⟩ => ⟨S2x768x4096x1, .i1⟩
  | .hbm, ⟨37, _⟩ => ⟨S1x1x1x1, .i32⟩
  | .hbm, ⟨38, _⟩ => ⟨S2x768x4096x1, .i32⟩
  | .hbm, ⟨39, _⟩ => ⟨S2x768x4096x1, .i1⟩
  | .hbm, ⟨40, _⟩ => ⟨S2x768x4096x1, .i1⟩
  | .hbm, ⟨41, _⟩ => ⟨S_, .i1⟩
  | .hbm, ⟨42, _⟩ => ⟨S2x768x4096, .i1⟩
  | .hbm, ⟨43, _⟩ => ⟨S2x768x4096, .bf16⟩
  | .hbm, ⟨44, _⟩ => ⟨S_, .bf16⟩
  | .hbm, ⟨45, _⟩ => ⟨S2x768x4096, .bf16⟩
  | .hbm, ⟨46, _⟩ => ⟨S2x768x4096, .bf16⟩
  | .hbm, ⟨47, _⟩ => ⟨S_, .i32⟩
  | .hbm, ⟨48, _⟩ => ⟨S2x768x4096, .i32⟩
  | .hbm, ⟨49, _⟩ => ⟨S2x768x4096, .i1⟩
  | .hbm, ⟨50, _⟩ => ⟨S_, .bf16⟩
  | .hbm, ⟨51, _⟩ => ⟨S2x768x4096, .bf16⟩
  | .hbm, ⟨52, _⟩ => ⟨S2x768x4096, .bf16⟩
  | .hbm, ⟨53, _⟩ => ⟨S2x768x1, .f32⟩
  | .hbm, ⟨54, _⟩ => ⟨S2x768x1, .bf16⟩
  | .hbm, ⟨55, _⟩ => ⟨S2x768x4096, .bf16⟩
  | .hbm, ⟨56, _⟩ => ⟨S2x768x4096, .bf16⟩
  | .hbm, ⟨57, _⟩ => ⟨S2x768x1, .f32⟩
  | .hbm, ⟨58, _⟩ => ⟨S2x768x1, .bf16⟩
  | .hbm, ⟨59, _⟩ => ⟨S2x768x11008, .bf16⟩
  | .hbm, ⟨60, _⟩ => ⟨S2x768x11008, .bf16⟩
  | .hbm, ⟨61, _⟩ => ⟨S4096x11008, .f32⟩
  | .local _ .vmem, ⟨0, _⟩ => ⟨S2x768x1024, .i8⟩
  | .local _ .vmem, ⟨1, _⟩ => ⟨S2x768x11008, .fp8e5m2⟩
  | .local _ .vmem, ⟨2, _⟩ => ⟨S2x768x1024, .bf16⟩
  | .local _ .vmem, ⟨3, _⟩ => ⟨S2x768x11008, .bf16⟩
  | _, _ => ⟨S2x768x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_call0_c : Ref sig .tc := ⟨.hbm, 16, rfl⟩
abbrev main_call0_call0_v0 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v15 : Ref sig .tc := ⟨.hbm, 46, rfl⟩
abbrev main_c_1 : Ref sig .tc := ⟨.hbm, 47, rfl⟩
abbrev main_v16 : Ref sig .tc := ⟨.hbm, 48, rfl⟩
abbrev main_v17 : Ref sig .tc := ⟨.hbm, 49, rfl⟩
abbrev main_cst : Ref sig .tc := ⟨.hbm, 50, rfl⟩
abbrev main_call2_v0 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x768x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x11008 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x11008 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Block.lean ====
/- What one 128-column block of the decode step computes, as ONE function of the block number: the program
   writes its body out 32 times (once per block of columns), and every copy is this function at its number. -/
module

public import proofs.«01_k».proof.Proof.Gen.KernelIdeal.Frame

@[expose] public section

set_option maxRecDepth 16384

noncomputable section

namespace Cert.Decode

open Idealize.ShloMosaic Idealize.SL.Sem Cert.KernelIdeal Cert.KernelIdeal.Gen

variable {F : FTy → Type} [FloatOps F]

/-- The lane number in every row. -/
def lane : IVec S128x128 32 := iota .tc S128x128 32 [1] iota_S128x128_d1_w32

/-- The bit position in its mask byte that a lane stands for: the lane modulo eight. -/
def bitpos : IVec S128x128 32 := andi lane (broadcast S128x128 7#32)

/-- An index as the lookup takes it: a negative one counts from the end (none is negative here). -/
def wrapped (i : IVec S128x128 32) : IVec S128x128 32 :=
  shapeCast S128x128 (shapeCast S128x128x1
    (select (cmpi .slt i (broadcast S128x128 0#32)) (addi i (broadcast S128x128 128#32)) i)
    shapeCasts_S128x128_S128x128x1) shapeCasts_S128x128x1_S128x128

/-- The word of every lane's mask byte: lane `l` of sub-block `sub` takes word `l / 8 + sub` of `src`. -/
def fetched (src : IVec S128x128 32) (sub : BitVec 32) : IVec S128x128 32 :=
  dynamicGather 1 src (wrapped (addi (shrsi lane (broadcast S128x128 3#32)) (broadcast S128x128 sub)))

/-- Is the lane's mask bit set? -/
def bitOf (w : IVec S128x128 32) : IVec S128x128 32 := andi (shrsi w bitpos) (broadcast S128x128 1#32)

/-- How many mask bits stand before the lane's in its row, at most 1023. -/
def rankOf (w : IVec S128x128 32) : IVec S128x128 32 :=
  minsi (addi (ctpop (andi w (subi (shli (broadcast S128x128 1#32) bitpos) (broadcast S128x128 1#32))))
    (shrsi w (broadcast S128x128 8#32))) (broadcast S128x128 1023#32)

/-- The stored code the lane takes, from the two packed tables, as a byte; zero where the bit is clear. -/
def codeOf (v0 v1 w : IVec S128x128 32) : IVec S128x128 8 :=
  trunci 8 (select (cmpi .eq (bitOf w) (broadcast S128x128 1#32))
    (shrui (select (cmpi .sge (rankOf w) (broadcast S128x128 512#32))
        (dynamicGather 1 v1 (wrapped (andi (rankOf w) (broadcast S128x128 127#32))))
        (dynamicGather 1 v0 (wrapped (andi (rankOf w) (broadcast S128x128 127#32)))))
      (andi (shrsi (rankOf w) (broadcast S128x128 4#32)) (broadcast S128x128 24#32)))
    (broadcast S128x128 0#32)) natLt_8_32

/-- The block: the codes read as fp8, widened, times the row's scale. -/
def block (v0 v1 w : IVec S128x128 32) (s : FVec F S128x1 .bf16) : FVec F S128x128 .bf16 :=
  mulf (extf .bf16 (bitcastToFloat .fp8e4m3 (codeOf v0 v1 w)) bitsLt_fp8e4m3_bf16)
    (broadcastTo S128x128 s broadcasts_S128x1_S128x128)

/-- The columns of mask words that block `b` reads lie in the 512. -/
theorem slices (b : Fin 32) : S128x512.Slices ![0, 128 * (b.val / 8)] S128x128 :=
  ⟨rfl, fun a => by
    have := b.isLt
    fin_cases a
    · exact Nat.le_refl 128
    · show 128 * (b.val / 8) + 128 ≤ 512; omega⟩

/-- Block `b`, from the row's mask words `W`, the two packed tables of codes and the scale. -/
def blockAt (W : IVec S128x512 32) (v0 v1 : IVec S128x128 32) (s : FVec F S128x1 .bf16) (b : Fin 32) :
    FVec F S128x128 .bf16 :=
  block v0 v1 (fetched (extractStridedSlice S128x128 ![0, 128 * (b.val / 8)] W (slices b))
    (BitVec.ofNat 32 (16 * (b.val % 8)))) s

theorem inbRow (b : Fin 32) : ∀ a, (![0, 128 * b.val] : Fin 2 → ℕ) a + S128x128.size a ≤ S128x4096.size a := by
  have := b.isLt
  intro a; fin_cases a
  · exact Nat.le_refl 128
  · show 128 * b.val + 128 ≤ 4096; omega
theorem inbCol (b : Fin 32) : ∀ a, (![128 * b.val, 0] : Fin 2 → ℕ) a + S128x128.size a ≤ S4096x128.size a := by
  have := b.isLt
  intro a; fin_cases a
  · show 128 * b.val + 128 ≤ 4096; omega
  · exact Nat.le_refl 128

/-- Where block `b` is stored in the first output: columns `128 b …`. -/
def rowPiece (W : IVec S128x512 32) (v0 v1 : IVec S128x128 32) (s : FVec F S128x1 .bf16) (b : Fin 32) :
    View.Piece (Elt F) S128x4096 .bf16 :=
  ⟨Rect.unit (s := S128x4096) ![0, 128 * b.val] S128x128.size (inbRow b), blockAt W v0 v1 s b⟩

/-- Where its transpose is stored in the second output: rows `128 b …`. -/
def colPiece (W : IVec S128x512 32) (v0 v1 : IVec S128x128 32) (s : FVec F S128x1 .bf16) (b : Fin 32) :
    View.Piece (Elt F) S4096x128 .bf16 :=
  ⟨Rect.unit (s := S4096x128) ![128 * b.val, 0] S128x128.size (inbCol b),
    transpose S128x128 [1, 0] (blockAt W v0 v1 s b) transposes_S128x128_p1_0_S128x128⟩

/-- The block numbers in the order the program's stores are listed, last first. -/
def order : List (Fin 32) :=
  [31, 30, 29, 28, 27, 26, 25, 24, 23, 22, 21, 20, 19, 18, 17, 16, 15, 14, 13, 12, 11, 10, 9, 8, 7, 6, 5, 4, 3, 2, 1, 0]

variable (x0 : Vec F S128x512 .i8) (x1 : Vec F S128x1024 .i8) (x2 : Vec F S128x1 .f32)

theorem out_row : out0_3 x0 x1 x2 = View.canon (order.map
    (rowPiece (k0_pay280 x0 x1 x2) (k0_pay281 x0 x1 x2) (k0_pay282 x0 x1 x2) (k0_pay283 x0 x1 x2))) := rfl

theorem out_col : out0_4 x0 x1 x2 = View.canon (order.map
    (colPiece (k0_pay280 x0 x1 x2) (k0_pay281 x0 x1 x2) (k0_pay282 x0 x1 x2) (k0_pay283 x0 x1 x2))) := rfl

end Cert.Decode

end
-- ==== Proof.Words.lean ====
/- The integer side of the decode, one row at a time and free of any program: a row's mask is 512 bytes, bit `n`
   of the row is bit `n % 8` of byte `n / 8`; the number of set bits before bit `n` is the place of bit `n`'s value
   in the packed row. The kernel works on words that hold a mask byte and the count of the set bits in the bytes
   before it; the lemmas say what each of its word operations gives. -/
module

public import Idealize.ShloMosaic.Lib.WordArith
public import Idealize.ShloMosaic.Lib.Routing.Ops

@[expose] public section

namespace Cert.Words

open Idealize.ShloMosaic

/-- Bit `n` of a row of mask bytes. -/
def bit (m : ℕ → BitVec 8) (n : ℕ) : Bool := (m (n / 8)).getLsbD (n % 8)

/-- How many bits before bit `n` are set. -/
def rank (m : ℕ → BitVec 8) (n : ℕ) : ℕ := ∑ j ∈ Finset.range n, (bit m j).toNat

/-- The code bit `n` of the row stands for: the next of the packed codes if the bit is set (the last of them
    where the row holds more set bits than codes), zero if not. -/
def code (m c : ℕ → BitVec 8) (n : ℕ) : BitVec 8 := if bit m n then c (min (rank m n) 1023) else 0#8

/-- How many of the lowest `p` bits of a byte are set. -/
def low (x : BitVec 8) (p : ℕ) : ℕ := ∑ j ∈ Finset.range p, (x.getLsbD j).toNat

/-- How many bits of the first `k` bytes are set. -/
def before (m : ℕ → BitVec 8) (k : ℕ) : ℕ := ∑ j ∈ Finset.range k, low (m j) 8

theorem rank_add (m : ℕ → BitVec 8) (k p : ℕ) (hp : p ≤ 8) : rank m (8 * k + p) = rank m (8 * k) + low (m k) p := by
  unfold rank low
  rw [Finset.sum_range_add]
  congr 1
  refine Finset.sum_congr rfl fun j hj => ?_
  have := Finset.mem_range.1 hj
  unfold bit
  rw [show (8 * k + j) / 8 = k by omega, show (8 * k + j) % 8 = j by omega]

theorem rank_bytes (m : ℕ → BitVec 8) (k : ℕ) : rank m (8 * k) = before m k := by
  induction k with
  | zero => rfl
  | succ k ih =>
    rw [show 8 * (k + 1) = 8 * k + 8 by omega, rank_add m k 8 le_rfl, ih]
    unfold before
    rw [Finset.sum_range_succ]

theorem rank_split (m : ℕ → BitVec 8) (n : ℕ) : rank m n = low (m (n / 8)) (n % 8) + before m (n / 8) := by
  conv_lhs => rw [show n = 8 * (n / 8) + n % 8 by omega]
  rw [rank_add m _ _ (by omega), rank_bytes, Nat.add_comm]

theorem rank_succ (m : ℕ → BitVec 8) (n : ℕ) : rank m (n + 1) = rank m n + (bit m n).toNat := by
  unfold rank; rw [Finset.sum_range_succ]

theorem low_le (x : BitVec 8) (p : ℕ) : low x p ≤ p := by
  unfold low
  calc _ ≤ ∑ _j ∈ Finset.range p, 1 := Finset.sum_le_sum fun j _ => Bool.toNat_le _
    _ = p := by simp

theorem before_le (m : ℕ → BitVec 8) (k : ℕ) : before m k ≤ 8 * k := by
  unfold before
  calc _ ≤ ∑ _j ∈ Finset.range k, 8 := Finset.sum_le_sum fun j _ => low_le _ _
    _ = 8 * k := by simp [Nat.mul_comm]

/-- The popcount of a widened byte. -/
theorem ctpop_byte (x : BitVec 8) : (IntOp.ctpop (x.setWidth 32)).toNat = low x 8 := by
  revert x; decide +kernel

/-- The word the kernel keeps per mask byte: the byte, and above it the count of the bits set before it. -/
def word (x : BitVec 8) (b : ℕ) : BitVec 32 := x.setWidth 32 ||| (BitVec.ofNat 32 b <<< 8)

theorem word_toNat (x : BitVec 8) (b : ℕ) (hb : b < 2 ^ 20) : (word x b).toNat = x.toNat + 256 * b := by
  unfold word
  have hx := x.isLt
  rw [BitVec.toNat_or, BitVec.toNat_setWidth, BitVec.toNat_shiftLeft, BitVec.toNat_ofNat,
    Nat.mod_eq_of_lt (show x.toNat < 2 ^ 32 by omega), Nat.mod_eq_of_lt (show b < 2 ^ 32 by omega), Nat.shiftLeft_eq,
    Nat.mod_eq_of_lt (show b * 2 ^ 8 < 2 ^ 32 by omega), Nat.or_comm, Nat.mul_comm b,
    ← Nat.two_pow_add_eq_or_of_lt (show x.toNat < 2 ^ 8 by omega)]
  omega

theorem word_msb (x : BitVec 8) (b : ℕ) (hb : b < 2 ^ 20) : (word x b).msb = false := by
  rw [BitVec.msb_eq_false_iff_two_mul_lt, word_toNat x b hb]
  have := x.isLt; omega

theorem word_getLsbD (x : BitVec 8) (b p : ℕ) (hp : p < 8) : (word x b).getLsbD p = x.getLsbD p := by
  unfold word
  rw [BitVec.getLsbD_or, BitVec.getLsbD_setWidth, BitVec.getLsbD_shiftLeft]
  simp [hp, show p < 32 by omega]

/-- A right shift of a non-negative word by less than its width. -/
theorem shrsi_toNat (w s : BitVec 32) (hw : w.msb = false) (hs : s.toNat < 32) :
    (IntOp.shrsi .vector w s).toNat = w.toNat / 2 ^ s.toNat := by
  unfold IntOp.shrsi
  rw [if_pos hs]
  show (w.sshiftRight s.toNat).toNat = _
  rw [BitVec.sshiftRight_eq_of_msb_false hw, BitVec.toNat_ushiftRight, Nat.shiftRight_eq_div_pow]

theorem shrui_toNat (w s : BitVec 32) (hs : s.toNat < 32) :
    (IntOp.shrui .vector w s).toNat = w.toNat / 2 ^ s.toNat := by
  unfold IntOp.shrui
  rw [if_pos hs]
  show (w >>> s.toNat).toNat = _
  rw [BitVec.toNat_ushiftRight, Nat.shiftRight_eq_div_pow]

/-- The lowest bit after shifting a byte's word right by `p`: is bit `p` set? -/
theorem bit_word (x : BitVec 8) (b p : ℕ) (hb : b < 2 ^ 20) (hp : p < 8) :
    IntOp.cmpi .eq (IntOp.andi (IntOp.shrsi .vector (word x b) (BitVec.ofNat 32 p)) 1#32) 1#32 = BitVec.ofBool (x.getLsbD p) := by
  have hs : (BitVec.ofNat 32 p).toNat = p := by rw [BitVec.toNat_ofNat]; omega
  have h : (IntOp.andi (IntOp.shrsi .vector (word x b) (BitVec.ofNat 32 p)) 1#32).toNat = (x.getLsbD p).toNat := by
    unfold IntOp.andi
    rw [BitVec.toNat_and, shrsi_toNat _ _ (word_msb x b hb) (by omega), hs, show (1#32).toNat = 1 from rfl, Nat.and_one_is_mod,
      ← word_getLsbD x b p hp]
    show _ = ((word x b).toNat.testBit p).toNat
    rw [Nat.testBit_eq_decide_div_mod_eq]
    have h2 := Nat.mod_two_eq_zero_or_one ((word x b).toNat / 2 ^ p)
    rcases h2 with h2 | h2 <;> simp [h2]
  show BitVec.ofBool (_ == 1#32) = _
  congr 1
  cases hx : x.getLsbD p
  · rw [hx] at h
    rw [BitVec.eq_of_toNat_eq (y := 0#32) h]; rfl
  · rw [hx] at h
    rw [BitVec.eq_of_toNat_eq (y := 1#32) h]; rfl

/-- The popcount of the low `p` bits of a byte's word. -/
theorem ctpop_low (x : BitVec 8) (b p : ℕ) (hp : p < 8) :
    (IntOp.ctpop (IntOp.andi (word x b) (IntOp.subi (IntOp.shli .vector 1#32 (BitVec.ofNat 32 p)) 1#32))).toNat = low x p := by
  have hs : (BitVec.ofNat 32 p).toNat = p := by rw [BitVec.toNat_ofNat]; omega
  have e : IntOp.andi (word x b) (IntOp.subi (IntOp.shli .vector 1#32 (BitVec.ofNat 32 p)) 1#32)
      = (x &&& (BitVec.ofNat 8 (2 ^ p - 1))).setWidth 32 := by
    have hm : IntOp.subi (IntOp.shli .vector 1#32 (BitVec.ofNat 32 p)) 1#32 = BitVec.ofNat 32 (2 ^ p - 1) := by
      interval_cases p <;> decide
    rw [hm]
    apply BitVec.eq_of_getLsbD_eq
    intro i hi
    unfold IntOp.andi
    rw [BitVec.getLsbD_and, BitVec.getLsbD_setWidth, BitVec.getLsbD_and, BitVec.getLsbD_ofNat, BitVec.getLsbD_ofNat,
      Nat.testBit_two_pow_sub_one]
    by_cases hip : i < p
    · rw [word_getLsbD x b i (by omega)]; simp [hi, hip, show i < 8 by omega]
    · simp [hip]
  rw [e]
  clear e hs
  interval_cases p <;> (revert x; decide +kernel)

/-- The count of the bits set before bit `p` of a byte, capped: what the kernel's rank is as a number. -/
theorem rank_word (x : BitVec 8) (b p : ℕ) (hb : b < 2 ^ 20) (hp : p < 8) :
    IntOp.minsi (IntOp.addi (IntOp.ctpop (IntOp.andi (word x b) (IntOp.subi (IntOp.shli .vector 1#32 (BitVec.ofNat 32 p)) 1#32)))
      (IntOp.shrsi .vector (word x b) 8#32)) 1023#32 = BitVec.ofNat 32 (min (low x p + b) 1023) := by
  have h : IntOp.addi (IntOp.ctpop (IntOp.andi (word x b) (IntOp.subi (IntOp.shli .vector 1#32 (BitVec.ofNat 32 p)) 1#32)))
      (IntOp.shrsi .vector (word x b) 8#32) = BitVec.ofNat 32 (low x p + b) := by
    apply BitVec.eq_of_toNat_eq
    unfold IntOp.addi
    rw [BitVec.toNat_add, ctpop_low x b p hp, shrsi_toNat _ _ (word_msb x b hb) (by decide), word_toNat x b hb]
    have := x.isLt
    have h8 : (x.toNat + 256 * b) / 2 ^ (8#32).toNat = b := by
      rw [show (8#32).toNat = 8 from rfl]; omega
    rw [h8, BitVec.toNat_ofNat]
  rw [h]
  have := low_le x p
  have hl : (BitVec.ofNat 32 (low x p + b)).toInt = (low x p + b : ℕ) := by
    rw [BitVec.toInt_eq_toNat_of_lt (by rw [BitVec.toNat_ofNat]; omega), BitVec.toNat_ofNat, Nat.mod_eq_of_lt (by omega)]
  unfold IntOp.minsi
  have hs : (BitVec.ofNat 32 (low x p + b)).slt 1023#32 = true ↔ low x p + b < 1023 := by
    rw [BitVec.slt_iff_toInt_lt, hl, show (1023#32).toInt = ((1023 : ℕ) : ℤ) from rfl]
    exact_mod_cast Iff.rfl
  by_cases hc : low x p + b < 1023
  · rw [if_pos (hs.2 hc), Nat.min_eq_left hc.le]
  · rw [if_neg (fun h => hc (hs.1 h)), Nat.min_eq_right (by omega)]

/-- Four codes packed into a word, the first in the lowest byte. -/
def packed (q : ℕ → BitVec 8) : BitVec 32 :=
  ((((q 0).setWidth 32 ||| ((q 1).setWidth 32 <<< 8)) ||| ((q 2).setWidth 32 <<< 16)) ||| ((q 3).setWidth 32 <<< 24))

/-- Byte `k` of the packed word. -/
theorem packed_byte (q : ℕ → BitVec 8) (k : ℕ) (hk : k < 4) :
    (IntOp.shrui .vector (packed q) (BitVec.ofNat 32 (8 * k))).setWidth 8 = q k := by
  have hs : (BitVec.ofNat 32 (8 * k)).toNat = 8 * k := by rw [BitVec.toNat_ofNat]; omega
  have e : IntOp.shrui .vector (packed q) (BitVec.ofNat 32 (8 * k)) = packed q >>> (8 * k) := by
    unfold IntOp.shrui
    rw [if_pos (by omega), BitVec.ushiftRight_eq', hs]
  rw [e]
  apply BitVec.eq_of_getLsbD_eq
  intro i hi
  rw [BitVec.getLsbD_setWidth, BitVec.getLsbD_ushiftRight]
  unfold packed
  interval_cases k <;> interval_cases i <;> simp [BitVec.getLsbD_or, BitVec.getLsbD_shiftLeft, BitVec.getLsbD_setWidth]

/-- A code widened with its sign and masked to a byte is the code widened without. -/
theorem signed_byte (x : BitVec 8) : IntOp.andi (x.signExtend 32) 255#32 = x.setWidth 32 := by
  revert x; decide +kernel

/-- The rank's parts: its lane, its half, and eight times its byte. -/
theorem rank_lane (r : ℕ) (hr : r < 1024) : (IntOp.andi (BitVec.ofNat 32 r) 127#32).toNat = r % 128 := by
  unfold IntOp.andi
  rw [BitVec.toNat_and, BitVec.toNat_ofNat, Nat.mod_eq_of_lt (by omega), show (127#32).toNat = 2 ^ 7 - 1 from rfl,
    Nat.and_two_pow_sub_one_eq_mod]
theorem rank_half (r : ℕ) (hr : r < 1024) : IntOp.cmpi .sge (BitVec.ofNat 32 r) 512#32 = BitVec.ofBool (decide (512 ≤ r)) := by
  show BitVec.ofBool ((512#32).sle (BitVec.ofNat 32 r)) = _
  congr 1
  have hl : (BitVec.ofNat 32 r).toInt = (r : ℕ) := by
    rw [BitVec.toInt_eq_toNat_of_lt (by rw [BitVec.toNat_ofNat]; omega), BitVec.toNat_ofNat, Nat.mod_eq_of_lt (by omega)]
  rw [BitVec.sle, hl, show (512#32).toInt = ((512 : ℕ) : ℤ) from rfl]
  simp
theorem rank_shift (r : ℕ) (hr : r < 1024) :
    IntOp.andi (IntOp.shrsi .vector (BitVec.ofNat 32 r) 4#32) 24#32 = BitVec.ofNat 32 (8 * (r / 128 % 4)) := by
  revert hr; revert r
  decide +kernel

/-- The choice between the two tables' words, the choice of the byte, and the zero where the bit is clear. -/
theorem pick (b : Bool) (q : ℕ) (g0 g1 : ℕ → BitVec 8) :
    (Scalar.select (BitVec.ofBool b) (IntOp.shrui .vector
      (Scalar.select (BitVec.ofBool (decide (512 ≤ q))) (packed g1) (packed g0))
      (BitVec.ofNat 32 (8 * (q / 128 % 4)))) 0#32).setWidth 8
      = if b then (if 512 ≤ q then g1 (q / 128 % 4) else g0 (q / 128 % 4)) else 0#8 := by
  have h4 : q / 128 % 4 < 4 := Nat.mod_lt _ (by omega)
  have s1 : ∀ u v : BitVec 32, Scalar.select (BitVec.ofBool true) u v = u := fun _ _ => rfl
  have s0 : ∀ u v : BitVec 32, Scalar.select (BitVec.ofBool false) u v = v := fun _ _ => rfl
  cases b
  · rw [s0]; rfl
  · rw [s1, if_pos rfl]
    by_cases hh : 512 ≤ q
    · rw [decide_eq_true hh, s1, if_pos hh, packed_byte _ _ h4]
    · rw [decide_eq_false hh, s0, if_neg hh, packed_byte _ _ h4]

/-- Four vectors of widened codes packed, at an element. -/
theorem pack_apply {s : Shape} (a b c d : IVec s 32) (q : ℕ → BitVec 8) (i : s.Idx) (h0 : a i = (q 0).setWidth 32)
    (h1 : b i = (q 1).setWidth 32) (h2 : c i = (q 2).setWidth 32) (h3 : d i = (q 3).setWidth 32) :
    ori (ori (ori a (shli b (broadcast s 8#32))) (shli c (broadcast s 16#32))) (shli d (broadcast s 24#32)) i = packed q := by
  show IntOp.ori (IntOp.ori (IntOp.ori (a i) (IntOp.shli .vector (b i) 8#32)) (IntOp.shli .vector (c i) 16#32))
    (IntOp.shli .vector (d i) 24#32) = _
  rw [h0, h1, h2, h3]
  rfl

end Cert.Words
-- ==== Proof.Codes.lean ====
/- One element of one decode block: the code that lane `l` of block `b` takes is the code of bit `128 b + l` of the
   row (Words.lean), given that the mask words hold the bytes with the counts before them. -/
module

public import proofs.«01_k».proof.Proof.Block
public import proofs.«01_k».proof.Proof.Words

@[expose] public section

set_option maxRecDepth 16384

noncomputable section

namespace Cert.Decode

open Idealize.ShloMosaic Idealize.ShloMosaic.ValueIdx Idealize.SL.Sem Cert.KernelIdeal Cert.KernelIdeal.Gen Cert.Words

variable {F : FTy → Type} [FloatOps F]

theorem lane_apply (r l : Fin 128) : lane (ix2 r l) = BitVec.ofNat 32 l.val := iota_single_apply ..

theorem bitpos_apply (r l : Fin 128) : bitpos (ix2 r l) = BitVec.ofNat 32 (l.val % 8) := by
  show IntOp.andi (lane (ix2 r l)) 7#32 = _
  rw [lane_apply]
  revert l; decide +kernel

/-- An index below 2³¹ is taken as it is. -/
theorem wrapped_apply (i : IVec S128x128 32) (j : S128x128.Idx) (h : (i j).msb = false) : wrapped i j = i j := by
  unfold wrapped
  rw [shapeCast_shapeCast]
  show Scalar.select (IntOp.cmpi .slt (i j) 0#32) _ _ = _
  have h0 : IntOp.cmpi .slt (i j) 0#32 = 0#1 := by
    show BitVec.ofBool ((i j).slt 0#32) = _
    rw [BitVec.slt_zero_eq_msb, h]; rfl
  rw [h0]; rfl

/-- A lookup along the lanes at a lane number below 128. -/
theorem lookup_apply (src i : IVec S128x128 32) (r l k : Fin 128) (h : (i (ix2 r l)).toNat = k.val) :
    dynamicGather 1 src (wrapped i) (ix2 r l) = src (ix2 r k) := by
  have hw := wrapped_apply i (ix2 r l) (by rw [BitVec.msb_eq_false_iff_two_mul_lt, h]; have := k.isLt; omega)
  unfold dynamicGather
  refine congrArg src (funext fun a => Fin.ext ?_)
  fin_cases a
  · rfl
  · show (wrapped i (ix2 r l)).toNat % 128 = k.val
    rw [hw, h, Nat.mod_eq_of_lt k.isLt]

theorem fetched_apply (src : IVec S128x128 32) (sub : ℕ) (r l : Fin 128) (h : sub ≤ 112) :
    fetched src (BitVec.ofNat 32 sub) (ix2 r l) = src (ix2 r ⟨l.val / 8 + sub, by have := l.isLt; omega⟩) := by
  unfold fetched
  refine lookup_apply src _ r l _ ?_
  show (IntOp.addi (IntOp.shrsi .vector (lane (ix2 r l)) 3#32) (BitVec.ofNat 32 sub)).toNat = _
  have hl := l.isLt
  have h3 : (3#32).toNat = 3 := rfl
  rw [lane_apply]
  unfold IntOp.addi
  rw [BitVec.toNat_add, shrsi_toNat _ _ _ (by decide), h3, BitVec.toNat_ofNat, BitVec.toNat_ofNat]
  · show (l.val % 2 ^ 32 / 2 ^ 3 + sub % 2 ^ 32) % 2 ^ 32 = l.val / 8 + sub
    omega
  · rw [BitVec.msb_eq_false_iff_two_mul_lt, BitVec.toNat_ofNat]; omega

/-- The code a lane takes, where its word is the byte of its bit and the two tables hold the row's codes. -/
theorem codeOf_apply (v0 v1 w : IVec S128x128 32) (m c : ℕ → BitVec 8) (r l : Fin 128) (n : ℕ) (hn : n < 4096)
    (hp : n % 8 = l.val % 8) (hw : w (ix2 r l) = word (m (n / 8)) (before m (n / 8)))
    (h0 : ∀ k : Fin 128, v0 (ix2 r k) = packed fun j => c (128 * j + k.val))
    (h1 : ∀ k : Fin 128, v1 (ix2 r k) = packed fun j => c (512 + 128 * j + k.val)) :
    codeOf v0 v1 w (ix2 r l) = code m c n := by
  have hb : before m (n / 8) < 2 ^ 20 := by have := before_le m (n / 8); omega
  have hp8 : n % 8 < 8 := Nat.mod_lt _ (by omega)
  have hbit : IntOp.cmpi .eq (bitOf w (ix2 r l)) 1#32 = BitVec.ofBool (bit m n) := by
    show IntOp.cmpi .eq (IntOp.andi (IntOp.shrsi .vector (w (ix2 r l)) (bitpos (ix2 r l))) 1#32) 1#32 = _
    rw [bitpos_apply, hw, ← hp]
    exact bit_word _ _ _ hb hp8
  have hrank : rankOf w (ix2 r l) = BitVec.ofNat 32 (min (rank m n) 1023) := by
    show IntOp.minsi (IntOp.addi (IntOp.ctpop (IntOp.andi (w (ix2 r l))
      (IntOp.subi (IntOp.shli .vector 1#32 (bitpos (ix2 r l))) 1#32))) (IntOp.shrsi .vector (w (ix2 r l)) 8#32)) 1023#32 = _
    rw [bitpos_apply, hw, ← hp, rank_split]
    exact rank_word _ _ _ hb hp8
  set q := min (rank m n) 1023 with hq
  have hq' : q < 1024 := by omega
  have hl : ((andi (rankOf w) (broadcast S128x128 127#32)) (ix2 r l)).toNat = q % 128 := by
    show (IntOp.andi (rankOf w (ix2 r l)) 127#32).toNat = _
    rw [hrank, rank_lane _ hq']
  have g0 := lookup_apply v0 _ r l ⟨q % 128, Nat.mod_lt _ (by omega)⟩ hl
  have g1 := lookup_apply v1 _ r l ⟨q % 128, Nat.mod_lt _ (by omega)⟩ hl
  show (Scalar.select (IntOp.cmpi .eq (bitOf w (ix2 r l)) 1#32)
      (IntOp.shrui .vector (Scalar.select (IntOp.cmpi .sge (rankOf w (ix2 r l)) 512#32)
        (dynamicGather 1 v1 (wrapped (andi (rankOf w) (broadcast S128x128 127#32))) (ix2 r l))
        (dynamicGather 1 v0 (wrapped (andi (rankOf w) (broadcast S128x128 127#32))) (ix2 r l)))
        (IntOp.andi (IntOp.shrsi .vector (rankOf w (ix2 r l)) 4#32) 24#32)) 0#32).setWidth 8 = _
  rw [hbit, g0, g1, hrank, rank_half _ hq', rank_shift _ hq', h0, h1]
  refine (pick _ _ _ _).trans ?_
  unfold code
  rw [← hq]
  by_cases hh : 512 ≤ q
  · rw [if_pos hh, show 512 + 128 * (q / 128 % 4) + q % 128 = q by omega]
  · rw [if_neg hh, show 128 * (q / 128 % 4) + q % 128 = q by omega]

/-- A row of `K` bytes as a function of every natural number (zero past the end). -/
def rowOf {K : ℕ} (f : Fin K → BitVec 8) (k : ℕ) : BitVec 8 := if h : k < K then f ⟨k, h⟩ else 0#8

theorem rowOf_lt {K : ℕ} (f : Fin K → BitVec 8) (k : ℕ) (h : k < K) : rowOf f k = f ⟨k, h⟩ := dif_pos h

/-- One stored code, widened: what each slice of the codes holds. -/
theorem code_apply (x1 : Vec F S128x1024 .i8) (r : Fin 128) (k : Fin 1024) :
    k0_pay3 (F := F) (View.ld x1 r0_1) (ix2 r k) = (x1 (ix2 r k)).setWidth 32 := by
  unfold k0_pay3
  rw [shapeCast_self, show View.ld x1 r0_1 = x1 from View.ld_unit_zero (by decide) _ x1]
  exact signed_byte (x1 (ix2 r k))

theorem code_slice (x1 : Vec F S128x1024 .i8) (off : ℕ) (h : S128x1024.Slices ![0, off] S128x128) (r k : Fin 128)
    (ho : off + 128 ≤ 1024) :
    extractStridedSlice S128x128 ![0, off] (k0_pay3 (F := F) (View.ld x1 r0_1)) h (ix2 r k)
      = (rowOf (fun j => x1 (ix2 r j)) (off + k.val)).setWidth 32 := by
  have hk := k.isLt
  rw [rowOf_lt _ _ (by omega : off + k.val < 1024), ← code_apply]
  refine extractStridedSlice_apply _ _ h _ (ix2 r ⟨off + k.val, by omega⟩) fun a => ?_
  fin_cases a
  · show r.val = 0 + r.val; omega
  · rfl

variable (x0 : Vec F S128x512 .i8) (x1 : Vec F S128x1024 .i8) (x2 : Vec F S128x1 .f32)

/-- The first table: codes `k`, `128 + k`, `256 + k`, `384 + k` in lane `k`. -/
theorem table0_apply (r k : Fin 128) : k0_pay281 x0 x1 x2 (ix2 r k)
    = packed fun j => rowOf (fun j => x1 (ix2 r j)) (128 * j + k.val) := by
  exact pack_apply _ _ _ _ _ _ (code_slice x1 0 _ r k (by omega)) (code_slice x1 128 _ r k (by omega))
    (code_slice x1 256 _ r k (by omega)) (code_slice x1 384 _ r k (by omega))

/-- The second table: the same from code 512 on. -/
theorem table1_apply (r k : Fin 128) : k0_pay282 x0 x1 x2 (ix2 r k)
    = packed fun j => rowOf (fun j => x1 (ix2 r j)) (512 + 128 * j + k.val) := by
  exact pack_apply _ _ _ _ _ _ (code_slice x1 512 slices_S128x1024_o0_512_S128x128 r k (by omega))
    (code_slice x1 640 slices_S128x1024_o0_640_S128x128 r k (by omega))
    (code_slice x1 768 slices_S128x1024_o0_768_S128x128 r k (by omega))
    (code_slice x1 896 slices_S128x1024_o0_896_S128x128 r k (by omega))

end Cert.Decode

end
-- ==== Proof.Scan.lean ====
/- The mask words at the ideal values: the product with the triangular matrix of ones adds up, in every column, the
   set bits of the bytes before it, so a word is its byte with that count above it (Words.lean's `word`). -/
module

public import proofs.«01_k».proof.Proof.Codes
public import Idealize.ShloMosaic.Lib.MatmulPlain
public import Idealize.ShloMosaic.Lib.IdealHost

@[expose] public section

set_option maxRecDepth 16384

noncomputable section

namespace Cert.Decode

open Idealize.ShloMosaic Idealize.ShloMosaic.ValueIdx Idealize.SL.Sem Cert.KernelIdeal Cert.KernelIdeal.Gen Cert.Words

/-- A count converted to an integer: itself. -/
theorem fptosi_nat (n : ℕ) (h : n < 2 ^ 20) : Ideal.fptosi 32 (((n : ℝ)) : EReal) = BitVec.ofNat 32 n := by
  rw [Ideal.fptosi, Ideal.toIntClamped_coe, if_pos (Nat.cast_nonneg n), Int.floor_natCast, ← BitVec.ofInt_natCast]
  congr 1
  omega

/-- A sum of reals, read as extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The counts of the bytes before byte `k`, added up with the triangle's ones and zeros. -/
theorem sum_triangle (m : ℕ → BitVec 8) (k : Fin 512) :
    (∑ j : Fin 512, ((low (m j.val) 8 : ℝ) : EReal) * (if j.val < k.val then (1 : EReal) else 0))
      = ((before m k.val : ℝ) : EReal) := by
  have e : ∀ j : Fin 512, ((low (m j.val) 8 : ℝ) : EReal) * (if j.val < k.val then (1 : EReal) else 0)
      = (((if j.val < k.val then low (m j.val) 8 else 0 : ℕ) : ℝ) : EReal) := by
    intro j
    by_cases h : j.val < k.val
    · rw [if_pos h, if_pos h, mul_one]
    · rw [if_neg h, if_neg h, mul_zero, Nat.cast_zero, EReal.coe_zero]
  rw [Finset.sum_congr rfl fun j _ => e j, coe_sum, ← Nat.cast_sum]
  refine congrArg (fun n : ℕ => ((n : ℝ) : EReal)) ?_
  rw [Fin.sum_univ_eq_sum_range (fun j => if j < k.val then low (m j) 8 else 0) 512, ← Finset.sum_filter]
  unfold before
  refine Finset.sum_congr ?_ fun _ _ => rfl
  ext j
  have := k.isLt
  simp only [Finset.mem_filter, Finset.mem_range]
  omega

/-- The set bits of the bytes, as a real number. -/
theorem counts_apply (x0 : Vec Ideal S128x512 .i8) (r : Fin 128) (j : Fin 512) :
    (truncf .bf16 (sitofp .f32 (ctpop (extui 32 x0 natLt_8_32)) : FVec Ideal S128x512 .f32) bitsLt_bf16_f32 : FVec Ideal S128x512 .bf16) (ix2 r j)
      = ((low (rowOf (fun k => x0 (ix2 r k)) j.val) 8 : ℝ) : EReal) := by
  show (((IntOp.ctpop ((x0 (ix2 r j)).setWidth 32)).toInt : ℝ) : EReal) = _
  rw [rowOf_lt _ _ j.isLt, ← ctpop_byte]
  have h := low_le (x0 (ix2 r j)) 8
  rw [← ctpop_byte] at h
  rw [BitVec.toInt_eq_toNat_of_lt (by omega)]
  simp

/-- The triangular matrix. -/
theorem triangle_apply (j k : Fin 512) :
    (truncf .bf16 (select (cmpi .slt (iota .tc S512x512 32 [0] iota_S512x512_d0_w32) (iota .tc S512x512 32 [1] iota_S512x512_d1_w32))
      (broadcast S512x512 (Scalar.ofBits .f32 0x3F800000#32)) (broadcast S512x512 (Scalar.ofBits .f32 0x00000000#32)) :
      FVec Ideal S512x512 .f32) bitsLt_bf16_f32 : FVec Ideal S512x512 .bf16) (ix2 j k)
      = if j.val < k.val then (1 : EReal) else 0 := by
  have hc : cmpi .slt (iota .tc S512x512 32 [0] iota_S512x512_d0_w32) (iota .tc S512x512 32 [1] iota_S512x512_d1_w32) (ix2 j k)
      = BitVec.ofBool (decide (j.val < k.val)) := by
    show IntOp.cmpi .slt (iota .tc S512x512 32 [0] iota_S512x512_d0_w32 (ix2 j k)) (iota .tc S512x512 32 [1] iota_S512x512_d1_w32 (ix2 j k)) = _
    rw [iota_single_apply, iota_single_apply]
    show BitVec.ofBool ((BitVec.ofNat 32 j.val).slt (BitVec.ofNat 32 k.val)) = _
    congr 1
    have hj := j.isLt
    have hk := k.isLt
    rw [BitVec.slt, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    simp
  show Scalar.select (cmpi .slt _ _ (ix2 j k)) (Ideal.ofBits .f32 0x3F800000#32) (Ideal.ofBits .f32 0x00000000#32) = _
  rw [hc, Ideal.ofBits_one_f32, Ideal.ofBits_zero_f32]
  by_cases h : j.val < k.val
  · rw [decide_eq_true h, if_pos h]; rfl
  · rw [decide_eq_false h, if_neg h]; rfl

variable (x0 : Vec Ideal S128x512 .i8) (x1 : Vec Ideal S128x1024 .i8) (x2 : Vec Ideal S128x1 .f32)

/-- A mask word: its byte, and above it the count of the set bits before the byte in the row. -/
theorem masks_apply (r : Fin 128) (k : Fin 512) : k0_pay280 x0 x1 x2 (ix2 r k)
    = word (rowOf (fun k => x0 (ix2 r k)) k.val) (before (rowOf (fun k => x0 (ix2 r k))) k.val) := by
  unfold k0_pay280
  rw [show View.ld x0 r0_0 = x0 from View.ld_unit_zero (by decide) _ x0]
  unfold k0_pay2
  rw [shapeCast_self]
  have hm : FloatOps.matmul (F := Ideal) dot_S128x512_S512x512_S128x512_1_0_0_1_n_n none
      (truncf .bf16 (sitofp .f32 (ctpop (extui 32 x0 natLt_8_32)) : FVec Ideal S128x512 .f32) bitsLt_bf16_f32)
      (truncf .bf16 (select (cmpi .slt (iota .tc S512x512 32 [0] iota_S512x512_d0_w32) (iota .tc S512x512 32 [1] iota_S512x512_d1_w32))
        (broadcast S512x512 (Scalar.ofBits .f32 0x3F800000#32)) (broadcast S512x512 (Scalar.ofBits .f32 0x00000000#32)) :
        FVec Ideal S512x512 .f32) bitsLt_bf16_f32)
      (constant S128x512 .f32 0x00000000#32) (ix2 r k) = ((before (rowOf (fun k => x0 (ix2 r k))) k.val : ℝ) : EReal) := by
    rw [show dot_S128x512_S512x512_S128x512_1_0_0_1_n_n = DotDims.plain 128 512 512 from rfl]
    refine (Ideal.matmul_plain_apply _ _ _ _ _ _).trans ?_
    rw [show (constant (F := Ideal) S128x512 .f32 0x00000000#32) (ix2 r k) = 0 from Ideal.ofBits_zero_f32, zero_add,
      ← sum_triangle]
    exact Finset.sum_congr rfl fun j _ => by rw [counts_apply, triangle_apply]
  show IntOp.ori ((x0 (ix2 r k)).setWidth 32) (IntOp.shli .vector (Ideal.fptosi 32 (FloatOps.matmul (F := Ideal) _ _ _ _ _ (ix2 r k))) 8#32) = _
  rw [hm, fptosi_nat _ (by have := before_le (rowOf (fun k => x0 (ix2 r k))) k.val; have := k.isLt; omega),
    rowOf_lt _ _ k.isLt]
  rfl

end Cert.Decode

end
-- ==== Proof.Decode.lean ====
/- What the decode kernel computes on one block of 128 rows, at the ideal values: element `n` of row `r` is the code of
   the row's bit `n`, read as an fp8 number, times the row's scale; the second output is the first transposed. -/
module

public import proofs.«01_k».proof.Proof.Scan

@[expose] public section

set_option maxRecDepth 16384

noncomputable section

namespace Cert.Decode

open Idealize.ShloMosaic Idealize.ShloMosaic.ValueIdx Idealize.SL.Sem Cert.KernelIdeal Cert.KernelIdeal.Gen Cert.Words

/-- Element `n` of a decoded row: from the row's mask bytes, its codes and its scale. -/
def elem {K N : ℕ} (m : Fin K → BitVec 8) (c : Fin N → BitVec 8) (s : EReal) (n : ℕ) : EReal :=
  Ideal.ofBits .fp8e4m3 (code (rowOf m) (rowOf c) n) * s

variable (x0 : Vec Ideal S128x512 .i8) (x1 : Vec Ideal S128x1024 .i8) (x2 : Vec Ideal S128x1 .f32)

/-- The decoded element at row `r`, column `n` of the block. -/
def val (r : Fin 128) (n : ℕ) : EReal := elem (fun k => x0 (ix2 r k)) (fun k => x1 (ix2 r k)) (x2 (ix2 r 0)) n

/-- The block's scale, rounded: at the ideal values, the scale. -/
theorem scale_apply (r : Fin 128) : (k0_pay283 x0 x1 x2 (ix2 r 0) : EReal) = x2 (ix2 r 0) := by
  unfold k0_pay283
  rw [show View.ld x2 r0_2 = x2 from View.ld_unit_zero (by decide) _ x2]
  unfold k0_pay9
  rw [shapeCast_self]
  rfl

/-- Block `b` at an element. -/
theorem blockAt_apply (b : Fin 32) (r l : Fin 128) :
    (blockAt (k0_pay280 x0 x1 x2) (k0_pay281 x0 x1 x2) (k0_pay282 x0 x1 x2) (k0_pay283 x0 x1 x2) b (ix2 r l) : EReal)
      = val x0 x1 x2 r (128 * b.val + l.val) := by
  have hb := b.isLt
  have hl := l.isLt
  have hw : fetched (extractStridedSlice S128x128 ![0, 128 * (b.val / 8)] (k0_pay280 x0 x1 x2) (slices b))
      (BitVec.ofNat 32 (16 * (b.val % 8))) (ix2 r l)
      = word (rowOf (fun k => x0 (ix2 r k)) ((128 * b.val + l.val) / 8)) (before (rowOf (fun k => x0 (ix2 r k))) ((128 * b.val + l.val) / 8)) := by
    rw [fetched_apply _ _ _ _ (by omega)]
    have hk : (128 * b.val + l.val) / 8 < 512 := by omega
    refine (extractStridedSlice_apply _ _ _ _ (ix2 r ⟨(128 * b.val + l.val) / 8, hk⟩) fun a => ?_).trans (masks_apply x0 x1 x2 r _)
    fin_cases a
    · show r.val = 0 + r.val; omega
    · show (128 * b.val + l.val) / 8 = 128 * (b.val / 8) + (l.val / 8 + 16 * (b.val % 8)); omega
  have hc := codeOf_apply _ _ _ (rowOf (fun k => x0 (ix2 r k))) (rowOf (fun k => x1 (ix2 r k))) r l (128 * b.val + l.val)
    (by omega) (by omega) hw (table0_apply x0 x1 x2 r) (table1_apply x0 x1 x2 r)
  have hs : broadcastTo S128x128 (k0_pay283 x0 x1 x2) broadcasts_S128x1_S128x128 (ix2 r l) = k0_pay283 x0 x1 x2 (ix2 r 0) :=
    broadcastTo_apply _ _ _ _ fun a => by fin_cases a <;> rfl
  unfold blockAt block val elem
  show Ideal.ofBits .fp8e4m3 (codeOf _ _ _ (ix2 r l)) * (broadcastTo S128x128 _ _ (ix2 r l) : EReal) = _
  rw [hc, hs, scale_apply]

theorem mem_order (b : Fin 32) : b ∈ order := by revert b; decide

/-- The first output: row `r`, column `n`. -/
theorem row_apply (r : Fin 128) (n : Fin 4096) : (out0_3 x0 x1 x2 (ix2 r n) : EReal) = val x0 x1 x2 r n.val := by
  rw [out_row]
  refine View.canon_apply_of_pieces (Val := Elt Ideal) (e := .bf16) (S := S128x4096) (fun j => val x0 x1 x2 (j 0) (j 1).val) _ ?_ (ix2 r n) ?_
  · intro p hp x
    obtain ⟨b, -, rfl⟩ := List.mem_map.1 hp
    obtain ⟨r', l, rfl⟩ : ∃ (r' l : Fin 128), x = ix2 r' l := ⟨x 0, x 1, eq_ix2 x⟩
    refine (blockAt_apply x0 x1 x2 b r' l).trans ?_
    refine congrArg₂ (val x0 x1 x2) (Fin.ext ?_) ?_
    · show r'.val = 0 + 1 * r'.val; omega
    · show 128 * b.val + l.val = 128 * b.val + 1 * l.val; omega
  · have hn := n.isLt
    refine ⟨_, List.mem_map.2 ⟨⟨n.val / 128, by omega⟩, mem_order _, rfl⟩, ?_⟩
    refine (Rect.mem_set_unit (inb := inbRow _)).2 fun a => ?_
    fin_cases a
    · exact ⟨Nat.zero_le _, by show r.val < 0 + 128; have := r.isLt; omega⟩
    · show 128 * (n.val / 128) ≤ n.val ∧ n.val < 128 * (n.val / 128) + 128; omega

/-- The second output: row `n`, column `r`. -/
theorem col_apply (n : Fin 4096) (r : Fin 128) : (out0_4 x0 x1 x2 (ix2 n r) : EReal) = val x0 x1 x2 r n.val := by
  rw [out_col]
  refine View.canon_apply_of_pieces (Val := Elt Ideal) (e := .bf16) (S := S4096x128) (fun j => val x0 x1 x2 (j 1) (j 0).val) _ ?_ (ix2 n r) ?_
  · intro p hp x
    obtain ⟨b, -, rfl⟩ := List.mem_map.1 hp
    obtain ⟨l, r', rfl⟩ : ∃ (l r' : Fin 128), x = ix2 l r' := ⟨x 0, x 1, eq_ix2 x⟩
    refine (transpose_apply _ _ _ _ (ix2 r' l) fun a => by fin_cases a <;> rfl).trans ((blockAt_apply x0 x1 x2 b r' l).trans ?_)
    refine congrArg₂ (val x0 x1 x2) (Fin.ext ?_) ?_
    · show r'.val = 0 + 1 * r'.val; omega
    · show 128 * b.val + l.val = 128 * b.val + 1 * l.val; omega
  · have hn := n.isLt
    refine ⟨_, List.mem_map.2 ⟨⟨n.val / 128, by omega⟩, mem_order _, rfl⟩, ?_⟩
    refine (Rect.mem_set_unit (inb := inbCol _)).2 fun a => ?_
    fin_cases a
    · show 128 * (n.val / 128) ≤ n.val ∧ n.val < 128 * (n.val / 128) + 128; omega
    · exact ⟨Nat.zero_le _, by show r.val < 0 + 128; have := r.isLt; omega⟩

end Cert.Decode

end
-- ==== Proof.Product.lean ====
/- What the product kernel computes on one block of 256 columns, at the ideal values: element (i, o) is the sum over
   the 1536 tokens of the decoded activation times the scaled gradient. The eight slices of 512 rows are one function
   of the slice's number. -/
module

public import proofs.«01_k».proof.Proof.Gen.KernelIdeal.Frame
public import Idealize.ShloMosaic.Lib.MatmulPlain
public import Idealize.ShloMosaic.Lib.Pipeline.Value

@[expose] public section

set_option maxRecDepth 16384

noncomputable section

namespace Cert.Product

open Idealize.ShloMosaic Idealize.ShloMosaic.ValueIdx Idealize.SL.Sem Cert.KernelIdeal Cert.KernelIdeal.Gen

section Slices
variable {F : FTy → Type} [FloatOps F]

theorem inbIn (b : Fin 8) : ∀ a, (![512 * b.val, 0] : Fin 2 → ℕ) a + S512x1536.size a ≤ S4096x1536.size a := by
  have := b.isLt
  intro a; fin_cases a
  · show 512 * b.val + 512 ≤ 4096; omega
  · exact Nat.le_refl 1536
theorem inbOut (b : Fin 8) : ∀ a, (![512 * b.val, 0] : Fin 2 → ℕ) a + S512x256.size a ≤ S4096x256.size a := by
  have := b.isLt
  intro a; fin_cases a
  · show 512 * b.val + 512 ≤ 4096; omega
  · exact Nat.le_refl 256

/-- Slice `b` of 512 rows: the slice of the activations times the scaled gradients, stored in the same rows. -/
def piece (x0 : Vec F S4096x1536 .bf16) (g : FVec F S1536x256 .bf16) (b : Fin 8) : View.Piece (Elt F) S4096x256 .f32 :=
  ⟨Rect.unit (s := S4096x256) ![512 * b.val, 0] S512x256.size (inbOut b),
    matmul dot_S512x1536_S1536x256_S512x256_1_0_0_1_n_n none
      (shapeCast S512x1536 (View.ld x0 (Rect.unit (s := S4096x1536) ![512 * b.val, 0] S512x1536.size (inbIn b)))
        shapeCasts_S512x1536_S512x1536) g (constant S512x256 .f32 0x00000000#32)⟩

theorem out_pieces (x0 : Vec F S4096x1536 .bf16) (x1 : Vec F S1536x256 .fp8e5m2) (x2 : Vec F S1536x1 .f32) :
    out1_3 x0 x1 x2 = View.canon (([7, 6, 5, 4, 3, 2, 1, 0] : List (Fin 8)).map (piece x0 (k1_pay10 x0 x1 x2))) := rfl
end Slices

variable (x0 : Vec Ideal S4096x1536 .bf16) (x1 : Vec Ideal S1536x256 .fp8e5m2) (x2 : Vec Ideal S1536x1 .f32)

/-- The scaled gradient: the fp8 value times its token's scale. -/
theorem grad_apply (t : Fin 1536) (o : Fin 256) :
    (k1_pay10 x0 x1 x2 (ix2 t o) : EReal) = (x1 (ix2 t o) : EReal) * (x2 (ix2 t 0) : EReal) := by
  unfold k1_pay10
  rw [show View.ld x1 r1_0 = x1 from View.ld_unit_zero (by decide) _ x1,
    show View.ld x2 r1_1 = x2 from View.ld_unit_zero (by decide) _ x2]
  unfold k1_pay4
  rw [shapeCast_self, shapeCast_self]
  have hs : broadcastTo S1536x256 (truncf .bf16 x2 bitsLt_bf16_f32 : FVec Ideal S1536x1 .bf16) broadcasts_S1536x1_S1536x256 (ix2 t o)
      = (truncf .bf16 x2 bitsLt_bf16_f32 : FVec Ideal S1536x1 .bf16) (ix2 t 0) :=
    broadcastTo_apply _ _ _ _ fun a => by fin_cases a <;> rfl
  show (x1 (ix2 t o) : EReal) * (broadcastTo S1536x256 _ _ (ix2 t o) : EReal) = _
  rw [hs]
  rfl

/-- An element of the block's result. -/
def val (i : Fin 4096) (o : Fin 256) : EReal :=
  ∑ t : Fin 1536, (x0 (ix2 i t) : EReal) * ((x1 (ix2 t o) : EReal) * (x2 (ix2 t 0) : EReal))

theorem out_apply (i : Fin 4096) (o : Fin 256) : (out1_3 x0 x1 x2 (ix2 i o) : EReal) = val x0 x1 x2 i o := by
  rw [out_pieces]
  refine View.canon_apply_of_pieces (Val := Elt Ideal) (e := .f32) (S := S4096x256) (fun j => val x0 x1 x2 (j 0) (j 1)) _ ?_ (ix2 i o) ?_
  · intro p hp x
    obtain ⟨b, -, rfl⟩ := List.mem_map.1 hp
    obtain ⟨r, o', rfl⟩ : ∃ (r : Fin 512) (o' : Fin 256), x = ix2 r o' := ⟨x 0, x 1, eq_ix2 x⟩
    have hb := b.isLt
    have hr := r.isLt
    have hi : 512 * b.val + r.val < 4096 := by omega
    have hv : ((piece (F := Ideal) x0 (k1_pay10 x0 x1 x2) b).2 (ix2 r o') : EReal) = val x0 x1 x2 ⟨512 * b.val + r.val, hi⟩ o' := by
      show FloatOps.matmul (F := Ideal) dot_S512x1536_S1536x256_S512x256_1_0_0_1_n_n none _ (k1_pay10 x0 x1 x2) _ (ix2 r o') = _
      rw [show dot_S512x1536_S1536x256_S512x256_1_0_0_1_n_n = DotDims.plain 512 1536 256 from rfl]
      refine (Ideal.matmul_plain_apply _ _ _ _ _ _).trans ?_
      rw [show (constant (F := Ideal) S512x256 .f32 0x00000000#32) (ix2 r o') = 0 from Ideal.ofBits_zero_f32, zero_add]
      refine Finset.sum_congr rfl fun t _ => ?_
      refine congrArg₂ (fun y z : EReal => y * z) ?_ (grad_apply x0 x1 x2 t o')
      refine (congrFun (shapeCast_self (s := S512x1536) _ _) _).trans ?_
      refine (congrFun (View.ld_unit x0 _ _ (inbIn b)) (ix2 r t)).trans ?_
      refine extractStridedSlice_apply _ _ _ _ (ix2 ⟨512 * b.val + r.val, hi⟩ t) fun a => ?_
      fin_cases a
      · rfl
      · show t.val = 0 + t.val; omega
    refine hv.trans (congrArg₂ (val x0 x1 x2) (Fin.ext ?_) (Fin.ext ?_))
    · show 512 * b.val + r.val = 512 * b.val + 1 * r.val; omega
    · show o'.val = 0 + 1 * o'.val; omega
  · have hi := i.isLt
    have hm : ∀ b : Fin 8, b ∈ ([7, 6, 5, 4, 3, 2, 1, 0] : List (Fin 8)) := by decide
    refine ⟨_, List.mem_map.2 ⟨⟨i.val / 512, by omega⟩, hm _, rfl⟩, ?_⟩
    refine (Rect.mem_set_unit (inb := inbOut _)).2 fun a => ?_
    fin_cases a
    · show 512 * (i.val / 512) ≤ i.val ∧ i.val < 512 * (i.val / 512) + 512; omega
    · exact ⟨Nat.zero_le _, by show o.val < 0 + 256; have := o.isLt; omega⟩

end Cert.Product

end
-- ==== Proof.Arrays.lean ====
/- What the two kernels' result arrays hold, at the ideal values, from their blocks: the decoded activations row by row,
   their transpose, and the product, each as one function of the arrays the kernel was entered with. -/
module

public import proofs.«01_k».proof.Proof.Decode
public import proofs.«01_k».proof.Proof.Product
public import Idealize.ShloMosaic.Lib.Pipeline.ValueKit.Geometry

@[expose] public section

set_option maxRecDepth 16384

noncomputable section

namespace Cert.Arrays

open Idealize.ShloMosaic Idealize.ShloMosaic.TcCoe Idealize.ShloMosaic.ValueIdx Idealize.SL.Sem Cert.KernelIdeal
  Cert.KernelIdeal.Gen

/-- The decoded element of token `r` (one of the 1536), column `n`. -/
def denseAt (x0 : Vec Ideal S1536x512 .i8) (x1 : Vec Ideal S1536x1024 .i8) (x2 : Vec Ideal S1536x1 .f32) (r : Fin 1536) (n : ℕ) : EReal :=
  Decode.elem (fun k => x0 (ix2 r k)) (fun k => x1 (ix2 r k)) (x2 (ix2 r 0)) n

/-- An element of the product. -/
def gradAt (x0 : Vec Ideal S4096x1536 .bf16) (x1 : Vec Ideal S1536x11008 .fp8e5m2) (x2 : Vec Ideal S1536x1 .f32)
    (i : Fin 4096) (o : Fin 11008) : EReal :=
  ∑ t : Fin 1536, (x0 (ix2 i t) : EReal) * ((x1 (ix2 t o) : EReal) * (x2 (ix2 t 0) : EReal))

section Blocks

theorem idx0 : ∀ t : Fin cfg0.N, win0_0.index t = ![t.val, 0] ∧ win0_1.index t = ![t.val, 0] ∧ win0_2.index t = ![t.val, 0]
    ∧ win0_3.index t = ![t.val, 0] ∧ win0_4.index t = ![0, t.val] :=
  (by decide +kernel : ∀ t : Fin grid0.N, _)
theorem idx1 : ∀ t : Fin cfg1.N, win1_0.index t = ![0, 0] ∧ win1_1.index t = ![0, t.val] ∧ win1_2.index t = ![0, 0]
    ∧ win1_3.index t = ![0, t.val] :=
  (by decide +kernel : ∀ t : Fin grid1.N, _)

variable (V : (c : Dev nD) → (b : Ref sig .tc) → Buf (Elt Ideal) ((c : Thread nD τ).loc b)) (c : Dev nD)

theorem lt0 (t : Fin cfg0.N) : t.val < 12 := t.isLt
theorem lt1 (t : Fin cfg1.N) : t.val < 43 := t.isLt

/-- Row `r` of the token block `t`. -/
def tok (t : Fin cfg0.N) (r : Fin 128) : Fin 1536 := ⟨t.val * 128 + r.val, by have := lt0 t; have := r.isLt; omega⟩
/-- Column `o` of the column block `t`. -/
def col (t : Fin cfg1.N) (o : Fin 256) : Fin 11008 := ⟨t.val * 256 + o.val, by have := lt1 t; have := o.isLt; omega⟩

theorem in0_0 (t : Fin cfg0.N) (r : Fin 128) (k : Fin 512) : iblk0 V c 0 t (ix2 r k) = V c main_v0 (ix2 (tok t r) k) := by
  blk_simp [iblk0]
  refine congrArg (V c main_v0) ?_
  obtain ⟨e, -⟩ := idx0 t
  funext a; fin_cases a <;> refine Fin.ext ?_ <;> blk_simp [e] <;> simp [tok]
theorem in0_1 (t : Fin cfg0.N) (r : Fin 128) (k : Fin 1024) : iblk0 V c 1 t (ix2 r k) = V c main_v1 (ix2 (tok t r) k) := by
  blk_simp [iblk0]
  refine congrArg (V c main_v1) ?_
  obtain ⟨-, e, -⟩ := idx0 t
  funext a; fin_cases a <;> refine Fin.ext ?_ <;> blk_simp [e] <;> simp [tok]
theorem in0_2 (t : Fin cfg0.N) (r : Fin 128) (k : Fin 1) : iblk0 V c 2 t (ix2 r k) = V c main_v2 (ix2 (tok t r) k) := by
  blk_simp [iblk0]
  refine congrArg (V c main_v2) ?_
  obtain ⟨-, -, e, -⟩ := idx0 t
  funext a; fin_cases a <;> refine Fin.ext ?_ <;> blk_simp [e] <;> simp [tok]

theorem block_val (t : Fin cfg0.N) (r : Fin 128) (n : ℕ) :
    Decode.val (iblk0 V c 0 t) (iblk0 V c 1 t) (iblk0 V c 2 t) r n = denseAt (V c main_v0) (V c main_v1) (V c main_v2) (tok t r) n := by
  unfold Decode.val denseAt
  rw [in0_2 V c t r 0, show (fun k => iblk0 V c 0 t (ix2 r k)) = _ from funext (in0_0 V c t r),
    show (fun k => iblk0 V c 1 t (ix2 r k)) = _ from funext (in0_1 V c t r)]

/-- The decoded activations, one row per token. -/
theorem rows_final : (dat0 V c).arrAt 3 cfg0.N
    = fun j => denseAt (V c main_v0) (V c main_v1) (V c main_v2) (j 0) (j 1).val := by
  refine (dat0 V c).arrAt_eq_of_covers 3 _ (by decide +kernel) fun t hf y => ?_
  blk_simp
  rw [after0_3]
  obtain ⟨r, n, rfl⟩ : ∃ (r : Fin 128) (n : Fin 4096), y = ix2 r n := ⟨y 0, y 1, eq_ix2 y⟩
  refine (Decode.row_apply _ _ _ r n).trans ((block_val V c t r n.val).trans ?_)
  obtain ⟨-, -, -, e, -⟩ := idx0 t
  refine congrArg₂ (denseAt (V c main_v0) (V c main_v1) (V c main_v2)) (Fin.ext ?_) ?_ <;> blk_simp [e] <;> simp [tok] <;> rfl

/-- Their transpose, one column per token. -/
theorem cols_final : (dat0 V c).arrAt 4 cfg0.N
    = fun j => denseAt (V c main_v0) (V c main_v1) (V c main_v2) (j 1) (j 0).val := by
  refine (dat0 V c).arrAt_eq_of_covers 4 _ (by decide +kernel) fun t hf y => ?_
  blk_simp
  rw [after0_4]
  obtain ⟨n, r, rfl⟩ : ∃ (n : Fin 4096) (r : Fin 128), y = ix2 n r := ⟨y 0, y 1, eq_ix2 y⟩
  refine (Decode.col_apply _ _ _ n r).trans ((block_val V c t r n.val).trans ?_)
  obtain ⟨-, -, -, -, e⟩ := idx0 t
  refine congrArg₂ (denseAt (V c main_v0) (V c main_v1) (V c main_v2)) (Fin.ext ?_) ?_ <;> blk_simp [e] <;> simp [tok] <;> rfl

theorem in1_0 (t : Fin cfg1.N) (i : Fin 4096) (k : Fin 1536) : iblk1 V c 0 t (ix2 i k) = V c main_v5_1 (ix2 i k) := by
  blk_simp [iblk1]
  refine congrArg (V c main_v5_1) ?_
  obtain ⟨e, -⟩ := idx1 t
  funext a; fin_cases a <;> refine Fin.ext ?_ <;> blk_simp [e] <;> simp
theorem in1_1 (t : Fin cfg1.N) (k : Fin 1536) (o : Fin 256) : iblk1 V c 1 t (ix2 k o) = V c main_v4 (ix2 k (col t o)) := by
  blk_simp [iblk1]
  refine congrArg (V c main_v4) ?_
  obtain ⟨-, e, -⟩ := idx1 t
  funext a; fin_cases a <;> refine Fin.ext ?_ <;> blk_simp [e] <;> simp [col]
theorem in1_2 (t : Fin cfg1.N) (k : Fin 1536) (o : Fin 1) : iblk1 V c 2 t (ix2 k o) = V c main_v3 (ix2 k o) := by
  blk_simp [iblk1]
  refine congrArg (V c main_v3) ?_
  obtain ⟨-, -, e, -⟩ := idx1 t
  funext a; fin_cases a <;> refine Fin.ext ?_ <;> blk_simp [e] <;> simp

/-- The product. -/
theorem product_final : (dat1 V c).arrAt 3 cfg1.N
    = fun j => gradAt (V c main_v5_1) (V c main_v4) (V c main_v3) (j 0) (j 1) := by
  refine (dat1 V c).arrAt_eq_of_covers 3 _ (by decide +kernel) fun t hf y => ?_
  blk_simp
  rw [after1_3]
  obtain ⟨i, o, rfl⟩ : ∃ (i : Fin 4096) (o : Fin 256), y = ix2 i o := ⟨y 0, y 1, eq_ix2 y⟩
  refine (Product.out_apply _ _ _ i o).trans ?_
  have hv : Product.val (iblk1 V c 0 t) (iblk1 V c 1 t) (iblk1 V c 2 t) i o = gradAt (V c main_v5_1) (V c main_v4) (V c main_v3) i (col t o) := by
    refine Finset.sum_congr rfl fun k _ => ?_
    rw [in1_0 V c t i k, in1_1 V c t k o, in1_2 V c t k 0]
  refine hv.trans ?_
  obtain ⟨-, -, -, e⟩ := idx1 t
  refine congrArg₂ (gradAt (V c main_v5_1) (V c main_v4) (V c main_v3)) (Fin.ext ?_) (Fin.ext ?_) <;> blk_simp [e] <;> simp [col] <;> rfl

end Blocks

end Cert.Arrays

end
-- ==== Proof.Spec.lean ====
/- The two results as functions of the five arguments, at the ideal values: the decoded activations and the gradient of
   the weights, the latter a sum over both batches and their 768 tokens. Both programs are proved to leave these. -/
module

public import proofs.«01_k».proof.Proof.Decode
public import Mathlib.Data.Fintype.BigOperators

@[expose] public section

set_option maxRecDepth 16384

noncomputable section

namespace Cert.Spec

open Idealize.ShloMosaic Idealize.ShloMosaic.ValueIdx

variable (A : IVec ⟨3, ![2, 768, 512]⟩ 8) (C : IVec ⟨3, ![2, 768, 1024]⟩ 8) (S : FVec Ideal ⟨2, ![2, 768]⟩ .f32)
  (G : FVec Ideal ⟨3, ![2, 768, 11008]⟩ .fp8e5m2) (T : FVec Ideal ⟨2, ![2, 768]⟩ .f32)

/-- The decoded activation of batch `b`, token `s`, column `n`. -/
def dense (b : Fin 2) (s : Fin 768) (n : ℕ) : EReal :=
  Decode.elem (fun k => A (ix3 b s k)) (fun k => C (ix3 b s k)) (S (ix2 b s)) n

/-- The weight gradient at row `i`, column `o`. -/
def grad (i : Fin 4096) (o : Fin 11008) : EReal :=
  ∑ b : Fin 2, ∑ s : Fin 768, dense A C S b s i.val * ((G (ix3 b s o) : EReal) * (T (ix2 b s) : EReal))

/-- Token `s` of batch `b` among the 1536. -/
def tok (b : Fin 2) (s : Fin 768) : Fin 1536 := ⟨768 * b.val + s.val, by have := b.isLt; have := s.isLt; omega⟩

/-- A sum over the 1536 tokens, batch by batch. -/
theorem sum_tok (f : Fin 1536 → EReal) : ∑ t : Fin 1536, f t = ∑ b : Fin 2, ∑ s : Fin 768, f (tok b s) := by
  rw [← Fintype.sum_prod_type (f := fun p : Fin 2 × Fin 768 => f (tok p.1 p.2))]
  refine (Fintype.sum_equiv (finProdFinEquiv (m := 2) (n := 768)) _ _ fun p => congrArg f (Fin.ext ?_)).symm
  show 768 * p.1.val + p.2.val = p.2.val + 768 * p.1.val
  omega

end Cert.Spec

end
-- ==== Proof.Run.lean ====
/- The kernel program's run with its result buffers: every execution ends with both results at the contents that the
   fold over the program's stretches gives (`W4`), and with the arguments as launched. Then those contents in terms of the
   arguments: the decoded activations and the product. -/
module

public import proofs.«01_k».proof.Proof.Arrays
public import proofs.«01_k».proof.Proof.Spec

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Launch
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's stretches, each buffer read at the end against the last boundary's contents. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v6 (by decide)), h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)
end Launch

section Values
open Idealize.ShloMosaic.ValueIdx

variable (m : (ℓ : Loc nD τ sig) → Buf (Elt Ideal) ℓ) (ρ : Dev nD → PrngReg) (c : Dev nD)

theorem v0_eq : V1 m ρ c main_v0 = shapeCast S1536x512 (m ((c : Thread nD τ).loc main_arg0)) shapeCasts_S2x768x512_S1536x512 := by
  show StableHlo.after hostOps0 _ _ = _
  after_results
  rfl
theorem v1_eq : V1 m ρ c main_v1 = shapeCast S1536x1024 (m ((c : Thread nD τ).loc main_arg1)) shapeCasts_S2x768x1024_S1536x1024 := by
  show StableHlo.after hostOps0 _ _ = _
  after_results
  rfl
theorem v2_eq : V1 m ρ c main_v2 = shapeCast S1536x1 (m ((c : Thread nD τ).loc main_arg2)) shapeCasts_S2x768_S1536x1 := by
  show StableHlo.after hostOps0 _ _ = _
  after_results
  rfl
theorem v3_eq : V1 m ρ c main_v3 = shapeCast S1536x1 (m ((c : Thread nD τ).loc main_arg4)) shapeCasts_S2x768_S1536x1 := by
  show StableHlo.after hostOps0 _ _ = _
  after_results
  rfl
theorem v4_eq : V1 m ρ c main_v4 = shapeCast S1536x11008 (m ((c : Thread nD τ).loc main_arg3)) shapeCasts_S2x768x11008_S1536x11008 := by
  show StableHlo.after hostOps0 _ _ = _
  after_results
  rfl

/-- A reshape of a rank-3 argument to one row per token, read at a token. -/
theorem flat3 {α : Type} {K : ℕ} (x : (⟨3, ![2, 768, K]⟩ : Shape).Idx → α) (h : (⟨3, ![2, 768, K]⟩ : Shape).ShapeCasts ⟨2, ![1536, K]⟩)
    (b : Fin 2) (s : Fin 768) (k : Fin K) : shapeCast ⟨2, ![1536, K]⟩ x h (ix2 (Spec.tok b s) k) = x (ix3 b s k) := by
  refine shapeCast_apply x h _ _ ?_
  rw [Shape.rowMajor_val_two, Shape.rowMajor_val_three]
  show (b.val * 768 + s.val) * K + k.val = (768 * b.val + s.val) * K + k.val
  rw [Nat.mul_comm b.val]
theorem flat2 {α : Type} (x : (⟨2, ![2, 768]⟩ : Shape).Idx → α) (h : (⟨2, ![2, 768]⟩ : Shape).ShapeCasts ⟨2, ![1536, 1]⟩)
    (b : Fin 2) (s : Fin 768) : shapeCast ⟨2, ![1536, 1]⟩ x h (ix2 (Spec.tok b s) 0) = x (ix2 b s) := by
  refine shapeCast_apply x h _ _ ?_
  rw [Shape.rowMajor_val_two, Shape.rowMajor_val_two]
  show b.val * 768 + s.val = (768 * b.val + s.val) * 1 + 0
  omega

/-- The decoded activation of a token, from the arguments. -/
theorem denseAt_eq (b : Fin 2) (s : Fin 768) (n : ℕ) :
    Arrays.denseAt (V1 m ρ c main_v0) (V1 m ρ c main_v1) (V1 m ρ c main_v2) (Spec.tok b s) n
      = Spec.dense (m ((c : Thread nD τ).loc main_arg0)) (m ((c : Thread nD τ).loc main_arg1)) (m ((c : Thread nD τ).loc main_arg2)) b s n := by
  rw [v0_eq, v1_eq, v2_eq]
  unfold Arrays.denseAt Spec.dense
  congr 1
  · funext k; exact flat3 _ _ b s k
  · funext k; exact flat3 _ _ b s k
  · exact flat2 _ _ b s

theorem cols_eq : V2 m ρ c main_v5_1
    = fun j => Arrays.denseAt (V1 m ρ c main_v0) (V1 m ρ c main_v1) (V1 m ρ c main_v2) (j 1) (j 0).val :=
  (W2_arr m ρ c 4).trans (Arrays.cols_final (V1 m ρ) c)
theorem rows_eq : V2 m ρ c main_v5_0
    = fun j => Arrays.denseAt (V1 m ρ c main_v0) (V1 m ρ c main_v1) (V1 m ρ c main_v2) (j 0) (j 1).val :=
  (W2_arr m ρ c 3).trans (Arrays.rows_final (V1 m ρ) c)
theorem grads_eq : V2 m ρ c main_v4 = V1 m ρ c main_v4 := W2_of m ρ c main_v4 (by decide)
theorem scales_eq : V2 m ρ c main_v3 = V1 m ρ c main_v3 := W2_of m ρ c main_v3 (by decide)

/-- The first result: the weight gradient. -/
theorem result0 : W4 m ρ c (Proc.devRef .tc main_v6)
    = fun j => Spec.grad (m ((c : Thread nD τ).loc main_arg0)) (m ((c : Thread nD τ).loc main_arg1)) (m ((c : Thread nD τ).loc main_arg2))
        (m ((c : Thread nD τ).loc main_arg3)) (m ((c : Thread nD τ).loc main_arg4)) (j 0) (j 1) := by
  rw [W4_of m ρ c main_v6 (by decide)]
  refine ((W3_arr m ρ c 3).trans (Arrays.product_final (V2 m ρ) c)).trans ?_
  funext j
  unfold Arrays.gradAt Spec.grad
  refine (Spec.sum_tok _).trans (Finset.sum_congr rfl fun b _ => Finset.sum_congr rfl fun s _ => ?_)
  rw [cols_eq, grads_eq, scales_eq, v3_eq, v4_eq]
  refine congrArg₂ (fun y z : EReal => y * z) (denseAt_eq m ρ c b s _) (congrArg₂ (fun y z : EReal => y * z) ?_ ?_)
  · exact flat3 _ _ b s (j 1)
  · exact flat2 _ _ b s

/-- The second result: the decoded activations. -/
theorem result1 : W4 m ρ c (Proc.devRef .tc main_v7)
    = fun j => Spec.dense (m ((c : Thread nD τ).loc main_arg0)) (m ((c : Thread nD τ).loc main_arg1)) (m ((c : Thread nD τ).loc main_arg2))
        (j 0) (j 1) (j 2).val := by
  have h5 : W3 m ρ c (Proc.devRef .tc main_v5_0) = V2 m ρ c main_v5_0 := W3_of m ρ c main_v5_0 (by decide)
  have h : W4 m ρ c (Proc.devRef .tc main_v7)
      = shapeCast S2x768x4096 (W3 m ρ c (Proc.devRef .tc main_v5_0)) shapeCasts_S1536x4096_S2x768x4096 := by
    show StableHlo.after hostOps2 _ _ = _
    after_results
    rfl
  rw [h, h5, rows_eq]
  funext j
  obtain ⟨b, s, n, rfl⟩ : ∃ (b : Fin 2) (s : Fin 768) (n : Fin 4096), j = ix3 b s n := ⟨j 0, j 1, j 2, eq_ix3 j⟩
  refine (shapeCast_apply _ _ _ (ix2 (Spec.tok b s) n) ?_).trans (denseAt_eq m ρ c b s n.val)
  rw [Shape.rowMajor_val_two, Shape.rowMajor_val_three]
  show (768 * b.val + s.val) * 4096 + n.val = (b.val * 768 + s.val) * 4096 + n.val
  omega

end Values

end Cert.KernelRun

end
-- ==== Proof.RefRun.lean ====
/- The reference's run: its host operations composed, stage by stage, into functions of the arguments (the stages are the
   lines of the plain computation), and every execution ending with both results at their values. -/
module

public import proofs.«01_k».proof.Proof.Gen.ReferenceIdeal.Frame
public import Idealize.ShloMosaic.Lib.Claim
public import Idealize.ShloMosaic.Lib.Pipeline.ValueKit.Geometry

@[expose] public section

set_option maxRecDepth 16384

noncomputable section

namespace Cert.RefRun

open Idealize.ShloMosaic Idealize.ShloMosaic.TcCoe Idealize.ShloMosaic.Tactic Idealize.SL.Sem Cert.ReferenceIdeal
  Cert.ReferenceIdeal.Gen

section Stages
variable {F : FTy → Type} [FloatOps F]

/-- The mask's bits, one word per column. -/
def bits (a : IVec S2x768x512 8) : IVec S2x768x4096 32 :=
  shapeCast S2x768x4096 (andi (Host.shrsi
      (broadcastInDim S2x768x512x8 ![0, 1, 2, 3] bcast_S2x768x512x1_S2x768x512x8_0_1_2_3
        (extui 32 (broadcastInDim S2x768x512x1 ![0, 1, 2] bcast_S2x768x512_S2x768x512x1_0_1_2 a) natLt_8_32))
      (broadcastInDim S2x768x512x8 ![0, 1, 2, 3] bcast_S1x1x1x8_S2x768x512x8_0_1_2_3
        (broadcastInDim S1x1x1x8 ![3] bcast_S8_S1x1x1x8_3 (iotaInDim S8 32 0))))
    (broadcastInDim S2x768x512x8 ![] bcast_S_S2x768x512x8 (constantI S_ 32 1#32))) shapeCasts_S2x768x512x8_S2x768x4096

/-- The running sums along the columns. -/
def sums (v : IVec S2x768x4096 32) : IVec S2x768x4096 32 :=
  Host.reduceWindow IntOp.addi ![1, 1, 4096] ![1, 1, 1] ![0, 0, 4095] ![0, 0, 0] v
    (broadcastInDim S_ ![] bcast_S_S_ (constantI S_ 32 0#32)) reduceWindows_S2x768x4096_S2x768x4096_w1s1p0_0_w1s1p0_0_w4096s1p4095_0 h_S_

/-- How many bits precede a column: the running sum less the column's own bit. -/
def ranks (v : IVec S2x768x4096 32) : IVec S2x768x4096 32 := subi (sums v) v

/-- Held to the table's last place. -/
def clamped (r : IVec S2x768x4096 32) : IVec S2x768x4096 32 :=
  minsi r (broadcastInDim S2x768x4096 ![] bcast_S_S2x768x4096 (constantI S_ 32 1023#32))

/-- The start indices of the gather: negative ones wrapped. -/
def starts (r : IVec S2x768x4096 32) : IVec S2x768x4096x1 32 :=
  shapeCast S2x768x4096x1 (select (cmpi .slt r (broadcastInDim S2x768x4096 ![] bcast_S_S2x768x4096 (constantI S_ 32 0#32)))
    (addi r (broadcastInDim S2x768x4096 ![] bcast_S_S2x768x4096 (constantI S_ 32 1024#32))) r) shapeCasts_S2x768x4096_S2x768x4096x1

/-- Which of them lie in the table. -/
def inside (i : IVec S2x768x4096x1 32) : IVec S2x768x4096 1 :=
  Host.reduce IntOp.andi
    (andi (cmpi .sge i (broadcastInDim S2x768x4096x1 ![] bcast_S_S2x768x4096x1 (constantI S_ 32 0#32)))
      (cmpi .sle i (broadcastInDim S2x768x4096x1 ![0, 1, 2, 3] bcast_S1x1x1x1_S2x768x4096x1_0_1_2_3
        (broadcastInDim S1x1x1x1 ![3] bcast_S1_S1x1x1x1_3 (constantI S1 32 1023#32)))))
    (constantI S_ 1 1#1) reducesTo_S2x768x4096x1_S2x768x4096_d3 h_S_

/-- The gathered values, a not-a-number outside the table. -/
def taken (x : FVec F S2x768x1024 .bf16) (i : IVec S2x768x4096x1 32) : FVec F S2x768x4096 .bf16 :=
  select (inside i) (Host.gather gather_S2x768x1024_S2x768x4096x1_S2x768x4096_n_2_01_01_2_3_111 x i)
    (broadcastInDim S2x768x4096 ![] bcast_S_S2x768x4096 (constant (F := F) S_ .bf16 0x7FC0#16))

/-- Zero where the bit is not set. -/
def kept (v : IVec S2x768x4096 32) (x : FVec F S2x768x4096 .bf16) : FVec F S2x768x4096 .bf16 :=
  select (cmpi .eq v (broadcastInDim S2x768x4096 ![] bcast_S_S2x768x4096 (constantI S_ 32 1#32))) x
    (broadcastInDim S2x768x4096 ![] bcast_S_S2x768x4096 (constant (F := F) S_ .bf16 0x0000#16))

/-- Times the token's scale. -/
def scaled (x : FVec F S2x768x4096 .bf16) (s : FVec F S2x768 .f32) : FVec F S2x768x4096 .bf16 :=
  mulf x (broadcastInDim S2x768x4096 ![0, 1, 2] bcast_S2x768x1_S2x768x4096_0_1_2
    (truncf .bf16 (broadcastInDim S2x768x1 ![0, 1] bcast_S2x768_S2x768x1_0_1 s) bitsLt_bf16_f32))

/-- The gradient times its token's scale. -/
def scaledGrad (g : FVec F S2x768x11008 .bf16) (s : FVec F S2x768 .f32) : FVec F S2x768x11008 .bf16 :=
  mulf g (broadcastInDim S2x768x11008 ![0, 1, 2] bcast_S2x768x1_S2x768x11008_0_1_2
    (truncf .bf16 (broadcastInDim S2x768x1 ![0, 1] bcast_S2x768_S2x768x1_0_1 s) bitsLt_bf16_f32))

/-- The decoded activations. -/
def decoded (a : IVec S2x768x512 8) (x : FVec F S2x768x1024 .bf16) (s : FVec F S2x768 .f32) : FVec F S2x768x4096 .bf16 :=
  scaled (kept (bits a) (taken x (starts (clamped (ranks (bits a)))))) s

/-- The product over batches and tokens. -/
def product (x : FVec F S2x768x4096 .bf16) (g : FVec F S2x768x11008 .bf16) : FVec F S4096x11008 .f32 :=
  Host.dotGeneral dot_S2x768x4096_S2x768x11008_S4096x11008_01_01_2_2_n_n none x g

section Lines
attribute [local irreducible] Host.reduceWindow Host.reduce Host.gather
variable (W : Valuation τ sig (Elt F))

theorem line0_v9 : StableHlo.after hostOps0 W (Proc.devRef .tc main_v9) = bits (W (Proc.devRef .tc main_arg0)) := by
  after_results
  rfl
theorem line0_1_v10 : StableHlo.after hostOps0_1 W (Proc.devRef .tc main_v10) = sums (W (Proc.devRef .tc main_v9)) := by
  after_results
  simp -implicitDefEqProofs only [StableHlo.TRef.toBuf, StableHlo.TRef.ofBuf, cast_cast, cast_eq]
  rfl
theorem line1_1_v15 : StableHlo.after hostOps1_1 W (Proc.devRef .tc main_v15)
    = taken (W (Proc.devRef .tc main_v12_0)) (starts (W (Proc.devRef .tc main_v14))) := by
  after_results
  simp -implicitDefEqProofs only [StableHlo.TRef.toBuf, StableHlo.TRef.ofBuf, cast_cast, cast_eq]
  unfold taken inside starts
  rfl

theorem line0_1_v9 : StableHlo.after hostOps0_1 W (Proc.devRef .tc main_v9) = W (Proc.devRef .tc main_v9) := by after_results
theorem line0_2_v9 : StableHlo.after hostOps0_2 W (Proc.devRef .tc main_v9) = W (Proc.devRef .tc main_v9) := by after_results
theorem line0_2_v11 : StableHlo.after hostOps0_2 W (Proc.devRef .tc main_v11)
    = subi (W (Proc.devRef .tc main_v10)) (W (Proc.devRef .tc main_v9)) := by after_results
theorem line1_v14 : StableHlo.after hostOps1 W (Proc.devRef .tc main_v14) = clamped (W (Proc.devRef .tc main_v11)) := by
  after_results
  rfl
theorem line1_v9 : StableHlo.after hostOps1 W (Proc.devRef .tc main_v9) = W (Proc.devRef .tc main_v9) := by after_results
theorem line1_v12_0 : StableHlo.after hostOps1 W (Proc.devRef .tc main_v12_0) = W (Proc.devRef .tc main_v12_0) := by after_results
theorem line1_v12_1 : StableHlo.after hostOps1 W (Proc.devRef .tc main_v12_1) = W (Proc.devRef .tc main_v12_1) := by after_results
theorem line1_arg2 : StableHlo.after hostOps1 W (Proc.devRef .tc main_arg2) = W (Proc.devRef .tc main_arg2) := by after_results
theorem line1_arg4 : StableHlo.after hostOps1 W (Proc.devRef .tc main_arg4) = W (Proc.devRef .tc main_arg4) := by after_results
theorem line1_1_v9 : StableHlo.after hostOps1_1 W (Proc.devRef .tc main_v9) = W (Proc.devRef .tc main_v9) := by after_results
theorem line1_1_v12_1 : StableHlo.after hostOps1_1 W (Proc.devRef .tc main_v12_1) = W (Proc.devRef .tc main_v12_1) := by after_results
theorem line1_1_arg2 : StableHlo.after hostOps1_1 W (Proc.devRef .tc main_arg2) = W (Proc.devRef .tc main_arg2) := by after_results
theorem line1_1_arg4 : StableHlo.after hostOps1_1 W (Proc.devRef .tc main_arg4) = W (Proc.devRef .tc main_arg4) := by after_results
theorem last_v22 : StableHlo.after (List.flatten [hostOps1_2, hostOps1_3, hostOps1_4]) W (Proc.devRef .tc main_v22)
    = scaled (kept (W (Proc.devRef .tc main_v9)) (W (Proc.devRef .tc main_v15))) (W (Proc.devRef .tc main_arg2)) := by
  simp only [List.flatten_cons, List.flatten_nil, List.append_nil, List.cons_append, List.nil_append]
  after_results
  simp -implicitDefEqProofs only [StableHlo.TRef.toBuf, StableHlo.TRef.ofBuf, cast_cast, cast_eq]
  unfold scaled kept
  rfl
theorem last_v27 : StableHlo.after (List.flatten [hostOps1_2, hostOps1_3, hostOps1_4]) W (Proc.devRef .tc main_v27)
    = product (scaled (kept (W (Proc.devRef .tc main_v9)) (W (Proc.devRef .tc main_v15))) (W (Proc.devRef .tc main_arg2)))
        (scaledGrad (W (Proc.devRef .tc main_v12_1)) (W (Proc.devRef .tc main_arg4))) := by
  simp only [List.flatten_cons, List.flatten_nil, List.append_nil, List.cons_append, List.nil_append]
  after_results
  simp -implicitDefEqProofs only [StableHlo.TRef.toBuf, StableHlo.TRef.ofBuf, cast_cast, cast_eq]
  unfold product scaledGrad scaled kept
  rfl

/-- Before the call: the bits and the ranks. -/
theorem head_v9 : StableHlo.after (List.flatten [hostOps0, hostOps0_1, hostOps0_2]) W (Proc.devRef .tc main_v9)
    = bits (W (Proc.devRef .tc main_arg0)) := by
  rw [List.flatten_cons, List.flatten_cons, List.flatten_cons, List.flatten_nil, List.append_nil, StableHlo.after_append,
    StableHlo.after_append, line0_2_v9, line0_1_v9, line0_v9]
theorem head_v11 : StableHlo.after (List.flatten [hostOps0, hostOps0_1, hostOps0_2]) W (Proc.devRef .tc main_v11)
    = ranks (bits (W (Proc.devRef .tc main_arg0))) := by
  rw [List.flatten_cons, List.flatten_cons, List.flatten_cons, List.flatten_nil, List.append_nil, StableHlo.after_append,
    StableHlo.after_append, line0_2_v11, line0_1_v10, line0_1_v9, line0_v9]
  rfl

/-- After it: the two results. -/
theorem tail_v22 : StableHlo.after (List.flatten [hostOps1, hostOps1_1, hostOps1_2, hostOps1_3, hostOps1_4]) W (Proc.devRef .tc main_v22)
    = scaled (kept (W (Proc.devRef .tc main_v9))
        (taken (W (Proc.devRef .tc main_v12_0)) (starts (clamped (W (Proc.devRef .tc main_v11)))))) (W (Proc.devRef .tc main_arg2)) := by
  rw [List.flatten_cons, List.flatten_cons, StableHlo.after_append, StableHlo.after_append, last_v22, line1_1_v15, line1_1_v9,
    line1_1_arg2, line1_v14, line1_v9, line1_v12_0, line1_arg2]
theorem tail_v27 : StableHlo.after (List.flatten [hostOps1, hostOps1_1, hostOps1_2, hostOps1_3, hostOps1_4]) W (Proc.devRef .tc main_v27)
    = product (scaled (kept (W (Proc.devRef .tc main_v9))
        (taken (W (Proc.devRef .tc main_v12_0)) (starts (clamped (W (Proc.devRef .tc main_v11)))))) (W (Proc.devRef .tc main_arg2)))
        (scaledGrad (W (Proc.devRef .tc main_v12_1)) (W (Proc.devRef .tc main_arg4))) := by
  rw [List.flatten_cons, List.flatten_cons, StableHlo.after_append, StableHlo.after_append, last_v27, line1_1_v15, line1_1_v9,
    line1_1_v12_1, line1_1_arg2, line1_1_arg4, line1_v14, line1_v9, line1_v12_0, line1_v12_1, line1_arg2, line1_arg4]
end Lines

section Run
variable (m : (ℓ : Loc nD τ sig) → Buf (Elt F) ℓ) (ρ : Dev nD → PrngReg) (c : Dev nD)

theorem idx : ∀ t : Fin cfg0.N, win0_0.index t = ![0, 0, 0] ∧ win0_1.index t = ![0, 0, 0] :=
  (by decide +kernel : ∀ t : Fin grid0.N, _)

theorem codes_block : iblk m c 0 t0_0 = m ((c : Thread nD τ).loc main_arg1) := by
  rw [← V_main_arg1 m c]
  funext j
  blk_simp [iblk]
  refine congrArg (V m c main_arg1) (funext fun a => Fin.ext ?_)
  fin_cases a <;> blk_simp [(idx t0_0).1] <;> simp
theorem grads_block : iblk m c 1 t0_0 = m ((c : Thread nD τ).loc main_arg3) := by
  rw [← V_main_arg3 m c]
  funext j
  blk_simp [iblk]
  refine congrArg (V m c main_arg3) (funext fun a => Fin.ext ?_)
  fin_cases a <;> blk_simp [(idx t0_0).2] <;> simp

/-- The call's first result: the codes read as values. -/
theorem values_final : (dats m 0 c).arrAt 2 cfg0.N = k0_pay1 (m ((c : Thread nD τ).loc main_arg1)) := by
  refine (dats m 0 c).arrAt_eq_of_after_last 2 t0_0 (by decide +kernel) _ fun j => ?_
  blk_simp
  rw [after0_2, codes_block]
  unfold out0_2
  rw [View.canon_unit_zero (by decide), View.ld_unit_zero (by decide)]
/-- Its second: the gradients widened. -/
theorem grads_final : (dats m 0 c).arrAt 3 cfg0.N = k0_pay2 (m ((c : Thread nD τ).loc main_arg3)) := by
  refine (dats m 0 c).arrAt_eq_of_after_last 3 t0_0 (by decide +kernel) _ fun j => ?_
  blk_simp
  rw [after0_3, grads_block]
  unfold out0_3
  rw [View.canon_unit_zero (by decide), View.ld_unit_zero (by decide)]

/-- The contents at the call's exit, read at the buffers the later lines read. -/
abbrev Vexit : Valuation τ sig (Elt F) := Pipeline.withArrays (cfgs 0).spec c (V0 m c) fun w => (dats m 0 c).arrAt w (cfgs 0).N

theorem exit_v9 : Vexit m c (Proc.devRef .tc main_v9) = bits (m ((c : Thread nD τ).loc main_arg0)) :=
  (Pipeline.withArrays_of_ne _ c (V0 m c) _ main_v9 (by exact (by decide : ∀ w, Pipeline.arrRef spec0 w ≠ main_v9))).trans (head_v9 _)
theorem exit_v11 : Vexit m c (Proc.devRef .tc main_v11) = ranks (bits (m ((c : Thread nD τ).loc main_arg0))) :=
  (Pipeline.withArrays_of_ne _ c (V0 m c) _ main_v11 (by exact (by decide : ∀ w, Pipeline.arrRef spec0 w ≠ main_v11))).trans (head_v11 _)
theorem exit_arg2 : Vexit m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem exit_arg4 : Vexit m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem exit_v12_0 : Vexit m c (Proc.devRef .tc main_v12_0) = k0_pay1 (m ((c : Thread nD τ).loc main_arg1)) :=
  (Pipeline.withArrays_arr spec0 launch0.win.arr_inj c (V0 m c) _ 2).trans (values_final m c)
theorem exit_v12_1 : Vexit m c (Proc.devRef .tc main_v12_1) = k0_pay2 (m ((c : Thread nD τ).loc main_arg3)) :=
  (Pipeline.withArrays_arr spec0 launch0.win.arr_inj c (V0 m c) _ 3).trans (grads_final m c)

/-- The activations as the reference leaves them. -/
def xrec : FVec F S2x768x4096 .bf16 :=
  decoded (m ((c : Thread nD τ).loc main_arg0)) (k0_pay1 (m ((c : Thread nD τ).loc main_arg1))) (m ((c : Thread nD τ).loc main_arg2))
/-- The weight gradient as the reference leaves it. -/
def dw : FVec F S4096x11008 .f32 :=
  product (xrec m c) (scaledGrad (k0_pay2 (m ((c : Thread nD τ).loc main_arg3))) (m ((c : Thread nD τ).loc main_arg4)))

theorem end_v22 : Pipeline.afterTail₀ cfgs (dats m) 0 (V0 m) [hostOps1, hostOps1_1, hostOps1_2, hostOps1_3, hostOps1_4] c main_v22 = xrec m c := by
  refine (tail_v22 (Vexit m c)).trans ?_
  rw [exit_v9, exit_v11, exit_v12_0, exit_arg2]
  rfl
theorem end_v27 : Pipeline.afterTail₀ cfgs (dats m) 0 (V0 m) [hostOps1, hostOps1_1, hostOps1_2, hostOps1_3, hostOps1_4] c main_v27 = dw m c := by
  refine (tail_v27 (Vexit m c)).trans ?_
  rw [exit_v9, exit_v11, exit_v12_0, exit_v12_1, exit_arg2, exit_arg4]
  rfl

/-- Every execution ends with both results at their values and the arguments as launched. -/
theorem run : θ_run defs (onTc (τ := τ) (main (F := F))) ⟨m, fun _ => 0, ρ⟩ (fun r => ∀ c : Dev nD,
      r.2.mem ((c.tc : Thread nD τ).loc main_v27) = dw m c
      ∧ r.2.mem ((c.tc : Thread nD τ).loc main_v22) = xrec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.2 c).2 main_v27 (Pipeline.mem_restRefs_of main_v27 (by decide) (by decide))).trans (end_v27 m c),
     ((h.2 c).2 main_v22 (Pipeline.mem_restRefs_of main_v22 (by decide) (by decide))).trans (end_v22 m c), h.1 c⟩)
    (θ_run_and (unchanged m ρ) (run_main m ρ))

end Run
end Stages

end Cert.RefRun

end
-- ==== Proof.RefShapes.lean ====
/- Two array operations of the reference read at an index: the running sum along the last axis of a rank-3 array, and the
   gather along the last axis with one index per place. -/
module

public import Idealize.ShloMosaic.Lib.Routing.Ops

@[expose] public section

noncomputable section

namespace Cert.RefShapes

open Idealize.ShloMosaic Idealize.ShloMosaic.ValueIdx Idealize.ShloMosaic.Routing

/-- A `[1, 1, N]` window has `N` places. -/
theorem numel3 (N : ℕ) : (shape3 1 1 N).numel = N := by
  show ∏ a : Fin 3, (![1, 1, N] : Fin 3 → ℕ) a = N
  rw [Fin.prod_univ_three]
  show 1 * 1 * N = N
  simp only [Nat.one_mul]

/-- Position `n` of a `[1, 1, N]` window is its index `(0, 0, n)`. -/
theorem symm3 {N : ℕ} (n : Fin (shape3 1 1 N).numel) :
    (shape3 1 1 N).rowMajor.symm n = ix3 (0 : Fin 1) (0 : Fin 1) (n.cast (numel3 N)) :=
  ((shape3 1 1 N).rowMajor.symm_apply_eq).2 (Fin.ext (by
    rw [Shape.rowMajor_val_three]
    show n.val = (0 * 1 + 0) * N + n.val
    omega))

/-- The running sum along the last axis: where entry `(b, s, i)` holds `f i`, entry `(b, s, j)` of the result holds
    `f 0 + … + f j`. -/
theorem cumsum3 {P Q N Nm1 : ℕ} (hN : Nm1 + 1 = N) (x : IVec (shape3 P Q N) 32) (b : Fin P) (s : Fin Q) (f : ℕ → ℕ)
    (hx : ∀ i : Fin N, x (ix3 b s i) = BitVec.ofNat 32 (f i.val)) (init : IVec shape0 32) (hinit : init ix0 = 0#32)
    (h : (shape3 P Q N).ReduceWindows (![1, 1, N] : Fin 3 → ℕ) ![1, 1, 1] ![0, 0, Nm1] ![0, 0, 0] (shape3 P Q N))
    (hu : 0 < shape0.numel) (j : Fin N) :
    Host.reduceWindow IntOp.addi ![1, 1, N] ![1, 1, 1] ![0, 0, Nm1] ![0, 0, 0] x init h hu (ix3 b s j)
      = BitVec.ofNat 32 ((List.range (j.val + 1)).map f).sum := by
  subst hN
  have hv : init (Shape.Idx.first hu) = BitVec.ofNat 32 0 := (congrArg init (eq_ix0 _)).trans hinit
  have hj := j.isLt
  have hb := b.isLt
  have hs := s.isLt
  unfold Host.reduceWindow
  refine (foldl_addi_ofNat _ _ (fun n => if Nm1 ≤ j.val + n.val then f (j.val + n.val - Nm1) else 0) (fun n _ => ?_) _ 0 hv).trans ?_
  · have hw0 : ((shape3 1 1 (Nm1 + 1)).rowMajor.symm n 0).val = 0 := by rw [symm3]; rfl
    have hw1 : ((shape3 1 1 (Nm1 + 1)).rowMajor.symm n 1).val = 0 := by rw [symm3]; rfl
    have hw : ((shape3 1 1 (Nm1 + 1)).rowMajor.symm n 2).val = n.val := by rw [symm3]; rfl
    have hn : n.val < Nm1 + 1 := (n.cast (numel3 _)).isLt
    dsimp only
    split
    · next hin =>
      have h2 := hin 2
      change Nm1 ≤ j.val * 1 + ((shape3 1 1 (Nm1 + 1)).rowMajor.symm n 2).val
        ∧ j.val * 1 + ((shape3 1 1 (Nm1 + 1)).rowMajor.symm n 2).val - Nm1 < Nm1 + 1 at h2
      rw [hw] at h2
      rw [if_pos (by omega)]
      refine (congrArg x (funext fun a => Fin.ext ?_)).trans (hx ⟨j.val + n.val - Nm1, by omega⟩)
      match a with
      | ⟨0, _⟩ =>
        show b.val * 1 + ((shape3 1 1 (Nm1 + 1)).rowMajor.symm n 0).val - 0 = b.val
        rw [hw0]
        omega
      | ⟨1, _⟩ =>
        show s.val * 1 + ((shape3 1 1 (Nm1 + 1)).rowMajor.symm n 1).val - 0 = s.val
        rw [hw1]
        omega
      | ⟨2, _⟩ =>
        show j.val * 1 + ((shape3 1 1 (Nm1 + 1)).rowMajor.symm n 2).val - Nm1 = j.val + n.val - Nm1
        rw [hw, Nat.mul_one]
    · next hin =>
      rw [if_neg fun hle => hin fun a => by
        match a with
        | ⟨0, _⟩ =>
          show 0 ≤ b.val * 1 + ((shape3 1 1 (Nm1 + 1)).rowMajor.symm n 0).val
            ∧ b.val * 1 + ((shape3 1 1 (Nm1 + 1)).rowMajor.symm n 0).val - 0 < P
          rw [hw0]
          omega
        | ⟨1, _⟩ =>
          show 0 ≤ s.val * 1 + ((shape3 1 1 (Nm1 + 1)).rowMajor.symm n 1).val
            ∧ s.val * 1 + ((shape3 1 1 (Nm1 + 1)).rowMajor.symm n 1).val - 0 < Q
          rw [hw1]
          omega
        | ⟨2, _⟩ =>
          show Nm1 ≤ j.val * 1 + ((shape3 1 1 (Nm1 + 1)).rowMajor.symm n 2).val
            ∧ j.val * 1 + ((shape3 1 1 (Nm1 + 1)).rowMajor.symm n 2).val - Nm1 < Nm1 + 1
          rw [hw]
          omega]
      exact hv
  · rw [Nat.zero_add, map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      (numel3 (Nm1 + 1))).trans (sum_window f Nm1 j.val (by omega)))

/-- The dimension numbers of a gather along the last axis, one start index per place, both leading axes batched. -/
abbrev alongDims (P Q N M : ℕ)
    (wf : GatherDims.WF ⟨3, ![P, Q, N]⟩ ⟨4, ![P, Q, M, 1]⟩ ⟨3, ![P, Q, M]⟩ [] [2] [0, 1] [2] [0, 1] 3 ![1, 1, 1]) :
    GatherDims ⟨3, ![P, Q, N]⟩ ⟨4, ![P, Q, M, 1]⟩ ⟨3, ![P, Q, M]⟩ where
  offsetDims := []
  collapsedSliceDims := [2]
  operandBatchingDims := [0, 1]
  startIndicesBatchingDims := [0, 1]
  startIndexMap := [2]
  indexVectorDim := 3
  sliceSizes := ![1, 1, 1]
  wf := wf

/-- That gather at `(p, q, j)`: the operand's entry of the same leading coordinates at the start index, read signed and
    held to `[0, N − 1]`. -/
theorem gather_along {α : Type} {P Q N M w : ℕ} (hN : 0 < N)
    (wf : GatherDims.WF ⟨3, ![P, Q, N]⟩ ⟨4, ![P, Q, M, 1]⟩ ⟨3, ![P, Q, M]⟩ [] [2] [0, 1] [2] [0, 1] 3 ![1, 1, 1])
    (x : (⟨3, ![P, Q, N]⟩ : Shape).Idx → α) (idx : IVec ⟨4, ![P, Q, M, 1]⟩ w) (p : Fin P) (q : Fin Q) (j : Fin M) :
    Host.gather (alongDims P Q N M wf) x idx (ix3 p q j)
      = x (ix3 p q ⟨min (idx (ix4 p q j 0)).toInt.toNat (N - 1), by omega⟩) := by
  unfold Host.gather
  congr 1
  funext a
  refine Fin.ext ?_
  show (alongDims P Q N M wf).start (ix3 p q j) idx a + (alongDims P Q N M wf).batchCoord (ix3 p q j) a
      + (alongDims P Q N M wf).offCoord (ix3 p q j) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  have m0 : (0 : Fin 3) ∈ (alongDims P Q N M wf).operandBatchingDims := List.mem_cons_self
  have m1 : (1 : Fin 3) ∈ (alongDims P Q N M wf).operandBatchingDims := List.mem_cons_of_mem _ (List.mem_singleton.mpr rfl)
  rcases h3 with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos m1]
    rfl
  · have m2 : (2 : Fin 3) ∈ (alongDims P Q N M wf).startIndexMap := List.mem_singleton.mpr rfl
    rw [GatherDims.batchCoord_eq_zero _ _ _ (fun h => absurd (List.mem_cons.1 h) (by simp)),
      GatherDims.offCoord_eq_zero _ _ _ (fun h => ((GatherDims.mem_sKept _ _).mp h).1 (List.mem_singleton.mpr rfl))]
    simp only [Nat.add_zero]
    unfold GatherDims.start
    rw [dif_pos m2]
    have hsi : (alongDims P Q N M wf).siIdx (ix3 p q j) ⟨List.idxOf (2 : Fin 3) (alongDims P Q N M wf).startIndexMap,
        List.idxOf_lt_length_iff.2 m2⟩ = ix4 p q j 0 := by
      funext b; refine Fin.ext ?_
      match b with
      | ⟨0, _⟩ => rfl
      | ⟨1, _⟩ => rfl
      | ⟨2, _⟩ => rfl
      | ⟨3, _⟩ => rfl
    rw [hsi]
    rfl

end Cert.RefShapes

end
-- ==== Proof.RefBits.lean ====
/- The reference's decoding, line by line at an index: the mask's bits, how many precede a column, the start index of the
   gather, and the value it takes. -/
module

public import proofs.«01_k».proof.Proof.RefRun
public import proofs.«01_k».proof.Proof.RefShapes
public import proofs.«01_k».proof.Proof.Codes
public import Idealize.ShloMosaic.Lib.IdealHost
public import Idealize.ShloMosaic.Lib.ReduceAll

@[expose] public section

set_option maxRecDepth 16384

noncomputable section

namespace Cert.RefBits

open Idealize.ShloMosaic Idealize.ShloMosaic.ValueIdx Cert.ReferenceIdeal Cert.RefRun Cert.Words Cert.Decode

/-- A byte's bit, as the plain computation takes it. -/
theorem byte_bit (x : BitVec 8) (p : Fin 8) :
    IntOp.andi (IntOp.shrsi .host (x.setWidth 32) (BitVec.ofNat 32 p.val)) 1#32 = BitVec.ofNat 32 (x.getLsbD p.val).toNat := by
  revert x p; decide +kernel

/-- A choice where the condition is one. -/
theorem select_one {α : Type} {t : Shape} (c : IVec t 1) (x y : t.Idx → α) (i : t.Idx) (h : c i = 1#1) : select c x y i = x i :=
  if_pos h
/-- A choice where it is zero. -/
theorem select_zero {α : Type} {t : Shape} (c : IVec t 1) (x y : t.Idx → α) (i : t.Idx) (h : c i = 0#1) : select c x y i = y i :=
  if_neg (by rw [h]; decide)

variable (A : IVec S2x768x512 8) (b : Fin 2) (s : Fin 768)

/-- The row of mask bytes of batch `b`, token `s`. -/
abbrev row : ℕ → BitVec 8 := rowOf fun k : Fin 512 => A (ix3 b s k)

theorem bits_apply (n : Fin 4096) : bits A (ix3 b s n) = BitVec.ofNat 32 (bit (row A b s) n.val).toNat := by
  have hn := n.isLt
  unfold bits
  rw [shapeCast_apply _ _ (ix3 b s n) (ix4 b s ⟨n.val / 8, by omega⟩ ⟨n.val % 8, by omega⟩) (by
    rw [Shape.rowMajor_val_three, Shape.rowMajor_val_four]
    show ((b.val * 768 + s.val) * 512 + n.val / 8) * 8 + n.val % 8 = (b.val * 768 + s.val) * 4096 + n.val
    omega)]
  refine Eq.trans ?_ ((byte_bit (A (ix3 b s ⟨n.val / 8, by omega⟩)) ⟨n.val % 8, by omega⟩).trans ?_)
  · refine congrArg₂ IntOp.andi (congrArg₂ (IntOp.shrsi .host) ?_ ?_) ?_
    · rw [broadcastInDim_apply _ _ _ _ (ix4 b s ⟨n.val / 8, by omega⟩ 0) (by
        intro a
        match a with
        | ⟨0, _⟩ => rfl
        | ⟨1, _⟩ => rfl
        | ⟨2, _⟩ => rfl
        | ⟨3, _⟩ => rfl)]
      refine congrArg (BitVec.setWidth 32) ?_
      rw [broadcastInDim_apply _ _ _ _ (ix3 b s ⟨n.val / 8, by omega⟩) (by
        intro a
        match a with
        | ⟨0, _⟩ => rfl
        | ⟨1, _⟩ => rfl
        | ⟨2, _⟩ => rfl)]
    · rw [broadcastInDim_apply _ _ _ _ (ix4 0 0 0 ⟨n.val % 8, by omega⟩) (by
        intro a
        match a with
        | ⟨0, _⟩ => rfl
        | ⟨1, _⟩ => rfl
        | ⟨2, _⟩ => rfl
        | ⟨3, _⟩ => rfl)]
      rw [broadcastInDim_apply _ _ _ _ (ix1 ⟨n.val % 8, by omega⟩) (by
        intro a
        match a with
        | ⟨0, _⟩ => rfl)]
      rfl
    · rw [broadcastInDim_scalar_apply]; rfl
  · unfold bit
    rw [show row A b s (n.val / 8) = A (ix3 b s ⟨n.val / 8, by omega⟩) from rowOf_lt _ _ (by omega)]

theorem sum_bits (m : ℕ → BitVec 8) (n : ℕ) : ((List.range n).map fun i => (bit m i).toNat).sum = rank m n := by
  induction n with
  | zero => rfl
  | succ n ih => rw [List.range_succ, List.map_append, List.sum_append, ih, rank_succ]; simp

theorem sums_apply (n : Fin 4096) : sums (bits A) (ix3 b s n) = BitVec.ofNat 32 (rank (row A b s) (n.val + 1)) := by
  unfold sums
  refine (RefShapes.cumsum3 (Nm1 := 4095) rfl (bits A) b s (fun i => (bit (row A b s) i).toNat) (fun i => bits_apply A b s i) _ ?_ _ _ n).trans ?_
  · rw [broadcastInDim_scalar_apply]; rfl
  · rw [sum_bits]

theorem ranks_apply (n : Fin 4096) : ranks (bits A) (ix3 b s n) = BitVec.ofNat 32 (rank (row A b s) n.val) := by
  show sums (bits A) (ix3 b s n) - bits A (ix3 b s n) = _
  rw [sums_apply, bits_apply, rank_succ, BitVec.ofNat_add]
  exact BitVec.add_sub_cancel _ _

theorem rank_le (m : ℕ → BitVec 8) (n : ℕ) : rank m n ≤ n := by
  induction n with
  | zero => exact le_rfl
  | succ n ih => rw [rank_succ]; have := Bool.toNat_le (bit m n); omega

/-- The smaller of a small word and 1023. -/
theorem minsi_last (r : ℕ) (hr : r < 2 ^ 31) : IntOp.minsi (BitVec.ofNat 32 r) 1023#32 = BitVec.ofNat 32 (min r 1023) := by
  unfold IntOp.minsi
  have e : (BitVec.ofNat 32 r).slt 1023#32 = decide (r < 1023) := by
    rw [BitVec.slt_eq_decide, show (1023#32).toInt = 1023 by decide]
    refine decide_eq_decide.2 ?_
    rw [BitVec.toInt_eq_toNat_of_lt (by rw [BitVec.toNat_ofNat]; omega), BitVec.toNat_ofNat]
    omega
  rw [e]
  by_cases h : r < 1023
  · rw [if_pos (by simpa using h), Nat.min_eq_left (by omega)]
  · rw [if_neg (by simpa using h), Nat.min_eq_right (by omega)]

/-- The place in the table a column reads. -/
abbrev place (n : ℕ) : ℕ := min (rank (row A b s) n) 1023

theorem clamped_apply (n : Fin 4096) : clamped (ranks (bits A)) (ix3 b s n) = BitVec.ofNat 32 (place A b s n.val) := by
  have h := rank_le (row A b s) n.val
  have hn := n.isLt
  refine Eq.trans ?_ (minsi_last (rank (row A b s) n.val) (by omega))
  refine congrArg₂ IntOp.minsi (ranks_apply A b s n) ?_
  rw [broadcastInDim_scalar_apply]; rfl

/-- Small words, read signed. -/
theorem small_toInt (r : Fin 1024) : (BitVec.ofNat 32 r.val).toInt = (r.val : ℤ) := by revert r; decide +kernel
/-- No small word is negative. -/
theorem small_slt (r : Fin 1024) : IntOp.cmpi .slt (BitVec.ofNat 32 r.val) 0#32 = 0#1 := by revert r; decide +kernel
/-- Every small word lies in the table. -/
theorem small_in (r : Fin 1024) : IntOp.andi (IntOp.cmpi .sge (BitVec.ofNat 32 r.val) 0#32)
    (IntOp.cmpi .sle (BitVec.ofNat 32 r.val) 1023#32) = 1#1 := by revert r; decide +kernel

theorem place_lt (n : ℕ) : place A b s n < 1024 := by
  have := Nat.min_le_right (rank (row A b s) n) 1023
  show min (rank (row A b s) n) 1023 < 1024
  omega

theorem starts_apply (n : Fin 4096) (z : Fin 1) :
    starts (clamped (ranks (bits A))) (ix4 b s n z) = BitVec.ofNat 32 (place A b s n.val) := by
  unfold starts
  rw [shapeCast_apply _ _ (ix4 b s n z) (ix3 b s n) (by
    rw [Shape.rowMajor_val_three, Shape.rowMajor_val_four]
    have := z.isLt
    show (b.val * 768 + s.val) * 4096 + n.val = ((b.val * 768 + s.val) * 4096 + n.val) * 1 + z.val
    omega)]
  refine (select_zero _ _ _ _ ?_).trans (clamped_apply A b s n)
  refine Eq.trans (congrArg₂ (IntOp.cmpi .slt) (clamped_apply A b s n) ?_) (small_slt ⟨_, place_lt A b s n.val⟩)
  rw [broadcastInDim_scalar_apply]; rfl

theorem inside_apply (j : S2x768x4096.Idx) : inside (starts (clamped (ranks (bits A)))) j = 1#1 := by
  unfold inside
  refine Host.reduce_andi_one _ _ _ _ _ rfl fun i => ?_
  obtain ⟨b', s', n', z', rfl⟩ : ∃ b' s' n' z', i = ix4 b' s' n' z' := ⟨i 0, i 1, i 2, i 3, eq_ix4 i⟩
  refine Eq.trans ?_ (small_in ⟨_, place_lt A b' s' n'.val⟩)
  refine congrArg₂ IntOp.andi (congrArg₂ (IntOp.cmpi .sge) (starts_apply A b' s' n' z') ?_)
    (congrArg₂ (IntOp.cmpi .sle) (starts_apply A b' s' n' z') ?_)
  · rw [broadcastInDim_scalar_apply]; rfl
  · rfl

variable (x : FVec Ideal S2x768x1024 .bf16)

theorem taken_apply (n : Fin 4096) : taken x (starts (clamped (ranks (bits A)))) (ix3 b s n)
    = x (ix3 b s ⟨place A b s n.val, place_lt A b s n.val⟩) := by
  unfold taken
  rw [select_one _ _ _ _ (inside_apply A _)]
  refine (RefShapes.gather_along (N := 1024) (by decide) _ x _ b s n).trans ?_
  refine congrArg x (congrArg (ix3 b s) (Fin.ext ?_))
  show min (starts (clamped (ranks (bits A))) (ix4 b s n 0)).toInt.toNat 1023 = place A b s n.val
  rw [starts_apply, small_toInt ⟨_, place_lt A b s n.val⟩]
  have := place_lt A b s n.val
  show min (place A b s n.val) 1023 = _
  omega

theorem kept_apply (y : FVec Ideal S2x768x4096 .bf16) (n : Fin 4096) :
    (kept (bits A) y (ix3 b s n) : EReal) = if bit (row A b s) n.val then y (ix3 b s n) else 0 := by
  have e : cmpi .eq (bits A) (broadcastInDim S2x768x4096 ![] Facts₀.bcast_S_S2x768x4096 (constantI S_ 32 1#32)) (ix3 b s n)
      = BitVec.ofBool (bit (row A b s) n.val) := by
    refine (congrArg₂ (IntOp.cmpi .eq) (bits_apply A b s n) (broadcastInDim_scalar_apply _ _ _)).trans ?_
    cases bit (row A b s) n.val <;> rfl
  unfold kept
  by_cases h : bit (row A b s) n.val = true
  · rw [select_one _ _ _ _ (e.trans (by rw [h]; rfl)), if_pos h]
  · rw [select_zero _ _ _ _ (e.trans (by rw [Bool.not_eq_true _ |>.mp h]; rfl)), if_neg h, broadcastInDim_scalar_apply]
    exact Ideal.ofBits_zero_bf16

end Cert.RefBits

end
-- ==== Proof.RefValue.lean ====
/- What the reference leaves, at the ideal values: the decoded activations and the weight gradient that the kernel's proof
   states, at every argument. -/
module

public import proofs.«01_k».proof.Proof.RefBits
public import proofs.«01_k».proof.Proof.Spec
public import Idealize.ShloMosaic.Lib.TwoAxisContraction

@[expose] public section

set_option maxRecDepth 16384

noncomputable section

namespace Cert.RefValue

open Idealize.ShloMosaic Idealize.ShloMosaic.ValueIdx Cert.ReferenceIdeal Cert.ReferenceIdeal.Gen Cert.RefRun Cert.RefBits
  Cert.Words Cert.Decode

variable (A : IVec S2x768x512 8) (C : IVec S2x768x1024 8) (S : FVec Ideal S2x768 .f32)
  (G : FVec Ideal S2x768x11008 .fp8e5m2) (T : FVec Ideal S2x768 .f32)

/-- A token's scale laid along its row. -/
theorem along_row {K : ℕ} (h : (⟨3, ![2, 768, 1]⟩ : Shape).BroadcastsInDim ⟨3, ![2, 768, K]⟩ ![0, 1, 2])
    (h' : (⟨2, ![2, 768]⟩ : Shape).BroadcastsInDim ⟨3, ![2, 768, 1]⟩ ![0, 1]) (hlt : FTy.bits .bf16 < FTy.bits .f32)
    (S : FVec Ideal ⟨2, ![2, 768]⟩ .f32) (b : Fin 2) (s : Fin 768) (n : Fin K) :
    (broadcastInDim ⟨3, ![2, 768, K]⟩ ![0, 1, 2] h (truncf (F := Ideal) .bf16 (broadcastInDim ⟨3, ![2, 768, 1]⟩ ![0, 1] h' S) hlt) (ix3 b s n) : EReal)
      = S (ix2 b s) := by
  rw [broadcastInDim_apply _ _ _ _ (ix3 b s 0) (by
    intro a
    match a with
    | ⟨0, _⟩ => rfl
    | ⟨1, _⟩ => rfl
    | ⟨2, _⟩ => rfl)]
  show broadcastInDim ⟨3, ![2, 768, 1]⟩ ![0, 1] h' S (ix3 b s 0) = S (ix2 b s)
  exact broadcastInDim_apply _ _ _ _ (ix2 b s) (by
    intro a
    match a with
    | ⟨0, _⟩ => rfl
    | ⟨1, _⟩ => rfl)

theorem scaled_apply (x : FVec Ideal S2x768x4096 .bf16) (b : Fin 2) (s : Fin 768) (n : Fin 4096) :
    (scaled x S (ix3 b s n) : EReal) = (x (ix3 b s n) : EReal) * S (ix2 b s) :=
  congrArg (fun y : EReal => (x (ix3 b s n) : EReal) * y) (along_row _ _ _ S b s n)

theorem scaledGrad_apply (b : Fin 2) (s : Fin 768) (o : Fin 11008) :
    (scaledGrad (k0_pay2 G) T (ix3 b s o) : EReal) = (G (ix3 b s o) : EReal) * T (ix2 b s) :=
  congrArg (fun y : EReal => (G (ix3 b s o) : EReal) * y) (along_row _ _ _ T b s o)

/-- A code read as a value. -/
theorem value_apply (i : S2x768x1024.Idx) : (k0_pay1 (F := Ideal) C i : EReal) = Ideal.ofBits .fp8e4m3 (C i) := rfl

/-- The all-zero code is zero. -/
theorem zero_code : Ideal.ofBits .fp8e4m3 0#8 = 0 := by simp [Ideal.ofBits, Ideal.e4m3fn, Ideal.ieee]

theorem decoded_apply (b : Fin 2) (s : Fin 768) (n : Fin 4096) :
    (decoded A (k0_pay1 C) S (ix3 b s n) : EReal) = Spec.dense A C S b s n.val := by
  have hp := place_lt A b s n.val
  unfold decoded Spec.dense elem code
  rw [scaled_apply, kept_apply, taken_apply, value_apply]
  refine congrArg (fun y : EReal => y * (S (ix2 b s) : EReal)) ?_
  by_cases h : bit (row A b s) n.val = true
  · rw [if_pos h, if_pos h]
    exact congrArg (Ideal.ofBits .fp8e4m3) (rowOf_lt (fun k : Fin 1024 => C (ix3 b s k)) _ hp).symm
  · rw [if_neg h, if_neg h]
    exact zero_code.symm

/-- The product at an element: the sum over both batches and their tokens. -/
theorem product_apply (x : FVec Ideal S2x768x4096 .bf16) (g : FVec Ideal S2x768x11008 .bf16) (i : Fin 4096) (o : Fin 11008) :
    (product x g (ix2 i o) : EReal) = ∑ b : Fin 2, ∑ s : Fin 768, (x (ix3 b s i) : EReal) * (g (ix3 b s o) : EReal) := by
  let D := dot_S2x768x4096_S2x768x11008_S4096x11008_01_01_2_2_n_n
  have hr : D.contr.rank = 2 := rfl
  have c0 : D.contr.size ⟨0, by rw [hr]; omega⟩ = 2 := rfl
  have c1 : D.contr.size ⟨1, by rw [hr]; omega⟩ = 768 := rfl
  unfold product
  refine (Ideal.dotGeneral_apply D none _ x g (ix2 i o)).trans ?_
  rw [sum_contr2 D 2 768 hr c0 c1]
  refine Finset.sum_congr rfl fun b _ => Finset.sum_congr rfl fun s _ => ?_
  have h0 := contrEquiv2_symm_val0 D 2 768 hr c0 c1 (b, s)
  have h1 := contrEquiv2_symm_val1 D 2 768 hr c0 c1 (b, s)
  have el : D.lhsIdx (ix2 i o) ((contrEquiv2 D 2 768 hr c0 c1).symm (b, s)) = ix3 b s i := by
    funext a; apply Fin.ext
    match a with
    | ⟨0, _⟩ => exact h0
    | ⟨1, _⟩ => exact h1
    | ⟨2, _⟩ => rfl
  have er : D.rhsIdx (ix2 i o) ((contrEquiv2 D 2 768 hr c0 c1).symm (b, s)) = ix3 b s o := by
    funext a; apply Fin.ext
    match a with
    | ⟨0, _⟩ => exact h0
    | ⟨1, _⟩ => exact h1
    | ⟨2, _⟩ => rfl
  rw [el, er]

theorem decoded_eq : decoded A (k0_pay1 C) S = fun j => Spec.dense A C S (j 0) (j 1) (j 2).val := by
  funext j
  obtain ⟨b, s, n, rfl⟩ : ∃ (b : Fin 2) (s : Fin 768) (n : Fin 4096), j = ix3 b s n := ⟨j 0, j 1, j 2, eq_ix3 j⟩
  exact decoded_apply A C S b s n

theorem product_eq : product (decoded A (k0_pay1 C) S) (scaledGrad (k0_pay2 G) T)
    = fun j => Spec.grad A C S G T (j 0) (j 1) := by
  funext j
  obtain ⟨i, o, rfl⟩ : ∃ (i : Fin 4096) (o : Fin 11008), j = ix2 i o := ⟨j 0, j 1, eq_ix2 j⟩
  refine (product_apply _ _ i o).trans ?_
  unfold Spec.grad
  refine Finset.sum_congr rfl fun b _ => Finset.sum_congr rfl fun s _ => ?_
  rw [decoded_apply, scaledGrad_apply]

end Cert.RefValue

end
-- ==== Proof.Equation.lean ====
/- The two programs' results are equal at the ideal values: both are the stated functions of the arguments. -/
module

public import proofs.«01_k».proof.Defs
public import proofs.«01_k».proof.Proof.Run
public import proofs.«01_k».proof.Proof.RefValue

@[expose] public section

set_option maxRecDepth 16384

noncomputable section

namespace Cert.Equation

open Idealize.ShloMosaic Idealize.ShloMosaic.TcCoe Idealize.SL.Sem

section
variable (m : (ℓ : Loc Cert.ReferenceIdeal.nD Cert.ReferenceIdeal.τ Cert.ReferenceIdeal.sig) → Buf (Elt Ideal) ℓ) (c : Dev Cert.ReferenceIdeal.nD)
open Cert.ReferenceIdeal

/-- The reference's second result: the decoded activations. -/
theorem ref1 : RefRun.xrec m c = fun j => Spec.dense (m ((c : Thread nD τ).loc main_arg0)) (m ((c : Thread nD τ).loc main_arg1))
    (m ((c : Thread nD τ).loc main_arg2)) (j 0) (j 1) (j 2).val := RefValue.decoded_eq _ _ _

/-- Its first: the weight gradient. -/
theorem ref0 : RefRun.dw m c = fun j => Spec.grad (m ((c : Thread nD τ).loc main_arg0)) (m ((c : Thread nD τ).loc main_arg1))
    (m ((c : Thread nD τ).loc main_arg2)) (m ((c : Thread nD τ).loc main_arg3)) (m ((c : Thread nD τ).loc main_arg4)) (j 0) (j 1) :=
  RefValue.product_eq _ _ _ _ _
end

theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, KernelRun.run m g, (θ_run Cert.ReferenceIdeal.defs _ _).mono (fun _ h c => ?_) (RefRun.run m' g')⟩
  obtain ⟨a0, a1, a2, a3, a4⟩ := hagree c
  refine ⟨(h c).1.trans ?_, (h c).2.1.trans ?_, (h c).2.2⟩
  · rw [KernelRun.result0 m g c, ref0 m' c, a0, a1, a2, a3, a4]
    rfl
  · rw [KernelRun.result1 m g c, ref1 m' c, a0, a1, a2]
    rfl

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  Cert.Equation.algebraic⟩

end Cert.Proof

end
